-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_cost [hPre_finite_cost : Cert.Pre_finite_cost.Facts] (m : (ℓ : Loc Cert.KernelIdeal.nD Cert.KernelIdeal.τ Cert.KernelIdeal.sig) → Buf (Elt Ideal) ℓ) : Prop :=
  ∀ c : Dev Cert.KernelIdeal.nD,
    (Cert.Pre_finite_cost.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_cost [hPre_finite_cost : Cert.Pre_finite_cost.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_cost.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_cost [hKernelIdeal : Cert.KernelIdeal.Facts] [hPre_finite_cost : Cert.Pre_finite_cost.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_cost m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_cost [hReferenceIdeal : Cert.ReferenceIdeal.Facts] [hPre_finite_cost : Cert.Pre_finite_cost.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_cost m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_cost [hKernelIdeal : Cert.KernelIdeal.Facts] [hReferenceIdeal : Cert.ReferenceIdeal.Facts] [hPre_finite_cost : Cert.Pre_finite_cost.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_cost m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_cost : Cert.Pre_finite_cost.Facts),
    quiescent_Kernel (hKernel := hKernel)
    ∧ quiescent_KernelIdeal (hKernelIdeal := hKernelIdeal)
    ∧ quiescent_KernelIdeal_pre_finite_cost (hKernelIdeal := hKernelIdeal) (hPre_finite_cost := hPre_finite_cost)
    ∧ quiescent_ReferenceIdeal (hReferenceIdeal := hReferenceIdeal)
    ∧ quiescent_ReferenceIdeal_pre_finite_cost (hReferenceIdeal := hReferenceIdeal) (hPre_finite_cost := hPre_finite_cost)
    ∧ preserves_Kernel_KernelIdeal
    ∧ algebraic_KernelIdeal_ReferenceIdeal_pre_finite_cost (hKernelIdeal := hKernelIdeal) (hReferenceIdeal := hReferenceIdeal) (hPre_finite_cost := hPre_finite_cost)
-- ==== Pre_finite_cost.lean ====
abbrev S8x24x160x320 : Shape := ⟨4, ![8, 24, 160, 320]⟩
abbrev S_ : Shape := ⟨0, ![]⟩

class Facts : Prop where
  bcast_S_S8x24x160x320 : S_.BroadcastsInDim S8x24x160x320 (![] : Fin 0 → Fin S8x24x160x320.rank)
  reducesTo_S8x24x160x320_S_d0_1_2_3 : S8x24x160x320.ReducesTo [0, 1, 2, 3] S_
  h_S_ : 0 < S_.numel

variable [Facts]

def fn {F : FTy → Type} [FloatOps F] (main_arg0 : FVec F S8x24x160x320 .f32) (main_arg1 : FVec F S8x24x160x320 .f32) : IVec S_ 1 :=
  let main_v0 : FVec F S8x24x160x320 .f32 := Host.absf main_arg0
  let main_cst : FVec F S_ .f32 := constant S_ .f32 0x7F800000#32
  let main_v1 : FVec F S8x24x160x320 .f32 := broadcastInDim S8x24x160x320 ![] bcast_S_S8x24x160x320 main_cst
  let main_v2 : IVec S8x24x160x320 1 := cmpf .olt main_v0 main_v1
  let main_c : IVec S_ 1 := constantI S_ 1 1#1
  let main_v3 : IVec S_ 1 := (fun x v => Host.reduce IntOp.andi x v reducesTo_S8x24x160x320_S_d0_1_2_3 h_S_) main_v2 main_c
  main_v3
-- ==== Kernel.lean ====
abbrev S8x24x160x320 : Shape := ⟨4, ![8, 24, 160, 320]⟩
abbrev S8x24x51200 : Shape := ⟨3, ![8, 24, 51200]⟩
abbrev S8x1x51200 : Shape := ⟨3, ![8, 1, 51200]⟩
abbrev S8x2x51200 : Shape := ⟨3, ![8, 2, 51200]⟩
abbrev S24x1280 : Shape := ⟨2, ![24, 1280]⟩
abbrev S1280 : Shape := ⟨1, ![1280]⟩
abbrev S2x1280 : Shape := ⟨2, ![2, 1280]⟩
abbrev S_ : Shape := ⟨0, ![]⟩
abbrev S1x24x1280 : Shape := ⟨3, ![1, 24, 1280]⟩
abbrev S1x16 : Shape := ⟨2, ![1, 16]⟩
abbrev S16 : Shape := ⟨1, ![16]⟩
abbrev S1x1x1280 : Shape := ⟨3, ![1, 1, 1280]⟩
abbrev S1x2x1280 : Shape := ⟨3, ![1, 2, 1280]⟩
abbrev S8x160x320 : Shape := ⟨3, ![8, 160, 320]⟩
abbrev S8x2x160x320 : Shape := ⟨4, ![8, 2, 160, 320]⟩

abbrev nBuf : Table → Nat
  | .hbm => 8
  | .local .scVector .vmem => 4
  | _ => 0

abbrev bufTy : (tb : Table) → Fin (nBuf tb) → BufTy
  | .hbm, ⟨0, _⟩ => ⟨S8x24x160x320, .f32⟩
  | .hbm, ⟨1, _⟩ => ⟨S8x24x160x320, .f32⟩
  | .hbm, ⟨2, _⟩ => ⟨S8x24x51200, .f32⟩
  | .hbm, ⟨3, _⟩ => ⟨S8x24x51200, .f32⟩
  | .hbm, ⟨4, _⟩ => ⟨S8x1x51200, .f32⟩
  | .hbm, ⟨5, _⟩ => ⟨S8x2x51200, .f32⟩
  | .hbm, ⟨6, _⟩ => ⟨S8x160x320, .f32⟩
  | .hbm, ⟨7, _⟩ => ⟨S8x2x160x320, .f32⟩
  | .local .scVector .vmem, ⟨0, _⟩ => ⟨S24x1280, .f32⟩
  | .local .scVector .vmem, ⟨1, _⟩ => ⟨S24x1280, .f32⟩
  | .local .scVector .vmem, ⟨2, _⟩ => ⟨S1280, .f32⟩
  | .local .scVector .vmem, ⟨3, _⟩ => ⟨S2x1280, .f32⟩
  | _, _ => ⟨S8x24x160x320, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v0_scv : Ref sig .scVector := ⟨.hbm, 2, rfl⟩
abbrev main_v1_scv : Ref sig .scVector := ⟨.hbm, 3, rfl⟩
abbrev main_v2_0_scv : Ref sig .scVector := ⟨.hbm, 4, rfl⟩
abbrev main_v2_1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_11 : BitVec 32 := 0#32
  let c10_i32 : BitVec 32 := 10#32
  let v30 : BitVec 32 := Scalar.addi c0_i32_11 c10_i32
  let c1_i32_12 : BitVec 32 := 1#32
  ⟨c0_i32_11, v30, c1_i32_12⟩
def k0_mult1 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12800_i32 : BitVec 32 := 12800#32
  let v29 : BitVec 32 := Scalar.muli v28 c12800_i32
  let c0_i32_11 : BitVec 32 := 0#32
  let c1_i32_12 : BitVec 32 := 1#32
  let arg10 : BitVec 32 := Scf.iv c0_i32_11 c1_i32_12 k0_t1
  let c1280_i32 : BitVec 32 := 1280#32
  let v31 : BitVec 32 := Scalar.muli arg10 c1280_i32
  let v32 : BitVec 32 := Scalar.addi v29 v31
  v32
def k0_off1 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_19_r0 : BitVec 32 := 0#32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12800_i32 : BitVec 32 := 12800#32
  let v29 : BitVec 32 := Scalar.muli v28 c12800_i32
  let c0_i32_11 : BitVec 32 := 0#32
  let c1_i32_12 : BitVec 32 := 1#32
  let arg10 : BitVec 32 := Scf.iv c0_i32_11 c1_i32_12 k0_t1
  let c1280_i32 : BitVec 32 := 1280#32
  let v31 : BitVec 32 := Scalar.muli arg10 c1280_i32
  let v32 : BitVec 32 := Scalar.addi v29 v31
  let v33 : BitVec 32 := v32
  ![v18.toNat, 0, v33.toNat]
@[reducible] def k0_t2_loop : Scf.Loop 32 :=
  let c0_i32_15 : BitVec 32 := 0#32
  let c80_i32 : BitVec 32 := 80#32
  let v34 : BitVec 32 := Scalar.addi c0_i32_15 c80_i32
  let c1_i32_16 : BitVec 32 := 1#32
  ⟨c0_i32_15, v34, c1_i32_16⟩
def k0_off2 (k0_t2 : Fin k0_t2_loop.trips) : Fin 2 → Nat :=
  let c0_i32_19 : BitVec 32 := 0#32
  let v36 : Index := Scalar.indexCast c0_i32_19
  let c0_i32_15 : BitVec 32 := 0#32
  let c1_i32_16 : BitVec 32 := 1#32
  let arg11 : BitVec 32 := Scf.iv c0_i32_15 c1_i32_16 k0_t2
  let c16_i32 : BitVec 32 := 16#32
  let v35 : BitVec 32 := Scalar.muli arg11 c16_i32
  let v37 : Index := Scalar.indexCast v35
  ![0, v37.toNat]
def k0_off3 (k0_t2 : Fin k0_t2_loop.trips) : Fin 2 → Nat :=
  let c1_i32_21 : BitVec 32 := 1#32
  let v44 : Index := Scalar.indexCast c1_i32_21
  let c0_i32_15 : BitVec 32 := 0#32
  let c1_i32_16 : BitVec 32 := 1#32
  let arg11 : BitVec 32 := Scf.iv c0_i32_15 c1_i32_16 k0_t2
  let c16_i32 : BitVec 32 := 16#32
  let v35 : BitVec 32 := Scalar.muli arg11 c16_i32
  let v45 : Index := Scalar.indexCast v35
  ![1, v45.toNat]
def k0_off4 (k0_t2 : Fin k0_t2_loop.trips) : Fin 2 → Nat :=
  let c2_i32_23 : BitVec 32 := 2#32
  let v57 : Index := Scalar.indexCast c2_i32_23
  let c0_i32_15 : BitVec 32 := 0#32
  let c1_i32_16 : BitVec 32 := 1#32
  let arg11 : BitVec 32 := Scf.iv c0_i32_15 c1_i32_16 k0_t2
  let c16_i32 : BitVec 32 := 16#32
  let v35 : BitVec 32 := Scalar.muli arg11 c16_i32
  let v58 : Index := Scalar.indexCast v35
  ![2, v58.toNat]
def k0_off5 (k0_t2 : Fin k0_t2_loop.trips) : Fin 2 → Nat :=
  let c3_i32 : BitVec 32 := 3#32
  let v73 : Index := Scalar.indexCast c3_i32
  let c0_i32_15 : BitVec 32 := 0#32
  let c1_i32_16 : BitVec 32 := 1#32
  let arg11 : BitVec 32 := Scf.iv c0_i32_15 c1_i32_16 k0_t2
  let c16_i32 : BitVec 32 := 16#32
  let v35 : BitVec 32 := Scalar.muli arg11 c16_i32
  let v74 : Index := Scalar.indexCast v35
  ![3, v74.toNat]
def k0_off6 (k0_t2 : Fin k0_t2_loop.trips) : Fin 2 → Nat :=
  let c4_i32_26 : BitVec 32 := 4#32
  let v89 : Index := Scalar.indexCast c4_i32_26
  let c0_i32_15 : BitVec 32 := 0#32
  let c1_i32_16 : BitVec 32 := 1#32
  let arg11 : BitVec 32 := Scf.iv c0_i32_15 c1_i32_16 k0_t2
  let c16_i32 : BitVec 32 := 16#32
  let v35 : BitVec 32 := Scalar.muli arg11 c16_i32
  let v90 : Index := Scalar.indexCast v35
  ![4, v90.toNat]
def k0_off7 (k0_t2 : Fin k0_t2_loop.trips) : Fin 2 → Nat :=
  let c5_i32 : BitVec 32 := 5#32
  let v105 : Index := Scalar.indexCast c5_i32
  let c0_i32_15 : BitVec 32 := 0#32
  let c1_i32_16 : BitVec 32 := 1#32
  let arg11 : BitVec 32 := Scf.iv c0_i32_15 c1_i32_16 k0_t2
  let c16_i32 : BitVec 32 := 16#32
  let v35 : BitVec 32 := Scalar.muli arg11 c16_i32
  let v106 : Index := Scalar.indexCast v35
  ![5, v106.toNat]
def k0_off8 (k0_t2 : Fin k0_t2_loop.trips) : Fin 2 → Nat :=
  let c6_i32 : BitVec 32 := 6#32
  let v121 : Index := Scalar.indexCast c6_i32
  let c0_i32_15 : BitVec 32 := 0#32
  let c1_i32_16 : BitVec 32 := 1#32
  let arg11 : BitVec 32 := Scf.iv c0_i32_15 c1_i32_16 k0_t2
  let c16_i32 : BitVec 32 := 16#32
  let v35 : BitVec 32 := Scalar.muli arg11 c16_i32
  let v122 : Index := Scalar.indexCast v35
  ![6, v122.toNat]
def k0_off9 (k0_t2 : Fin k0_t2_loop.trips) : Fin 2 → Nat :=
  let c7_i32 : BitVec 32 := 7#32
  let v137 : Index := Scalar.indexCast c7_i32
  let c0_i32_15 : BitVec 32 := 0#32
  let c1_i32_16 : BitVec 32 := 1#32
  let arg11 : BitVec 32 := Scf.iv c0_i32_15 c1_i32_16 k0_t2
  let c16_i32 : BitVec 32 := 16#32
  let v35 : BitVec 32 := Scalar.muli arg11 c16_i32
  let v138 : Index := Scalar.indexCast v35
  ![7, v138.toNat]
def k0_off10 (k0_t2 : Fin k0_t2_loop.trips) : Fin 2 → Nat :=
  let c8_i32 : BitVec 32 := 8#32
  let v153 : Index := Scalar.indexCast c8_i32
  let c0_i32_15 : BitVec 32 := 0#32
  let c1_i32_16 : BitVec 32 := 1#32
  let arg11 : BitVec 32 := Scf.iv c0_i32_15 c1_i32_16 k0_t2
  let c16_i32 : BitVec 32 := 16#32
  let v35 : BitVec 32 := Scalar.muli arg11 c16_i32
  let v154 : Index := Scalar.indexCast v35
  ![8, v154.toNat]
def k0_off11 (k0_t2 : Fin k0_t2_loop.trips) : Fin 2 → Nat :=
  let c9_i32 : BitVec 32 := 9#32
  let v169 : Index := Scalar.indexCast c9_i32
  let c0_i32_15 : BitVec 32 := 0#32
  let c1_i32_16 : BitVec 32 := 1#32
  let arg11 : BitVec 32 := Scf.iv c0_i32_15 c1_i32_16 k0_t2
  let c16_i32 : BitVec 32 := 16#32
  let v35 : BitVec 32 := Scalar.muli arg11 c16_i32
  let v170 : Index := Scalar.indexCast v35
  ![9, v170.toNat]
def k0_off12 (k0_t2 : Fin k0_t2_loop.trips) : Fin 2 → Nat :=
  let c10_i32_33 : BitVec 32 := 10#32
  let v185 : Index := Scalar.indexCast c10_i32_33
  let c0_i32_15 : BitVec 32 := 0#32
  let c1_i32_16 : BitVec 32 := 1#32
  let arg11 : BitVec 32 := Scf.iv c0_i32_15 c1_i32_16 k0_t2
  let c16_i32 : BitVec 32 := 16#32
  let v35 : BitVec 32 := Scalar.muli arg11 c16_i32
  let v186 : Index := Scalar.indexCast v35
  ![10, v186.toNat]
def k0_off13 (k0_t2 : Fin k0_t2_loop.trips) : Fin 2 → Nat :=
  let c11_i32 : BitVec 32 := 11#32
  let v201 : Index := Scalar.indexCast c11_i32
  let c0_i32_15 : BitVec 32 := 0#32
  let c1_i32_16 : BitVec 32 := 1#32
  let arg11 : BitVec 32 := Scf.iv c0_i32_15 c1_i32_16 k0_t2
  let c16_i32 : BitVec 32 := 16#32
  let v35 : BitVec 32 := Scalar.muli arg11 c16_i32
  let v202 : Index := Scalar.indexCast v35
  ![11, v202.toNat]
def k0_off14 (k0_t2 : Fin k0_t2_loop.trips) : Fin 2 → Nat :=
  let c12_i32 : BitVec 32 := 12#32
  let v217 : Index := Scalar.indexCast c12_i32
  let c0_i32_15 : BitVec 32 := 0#32
  let c1_i32_16 : BitVec 32 := 1#32
  let arg11 : BitVec 32 := Scf.iv c0_i32_15 c1_i32_16 k0_t2
  let c16_i32 : BitVec 32 := 16#32
  let v35 : BitVec 32 := Scalar.muli arg11 c16_i32
  let v218 : Index := Scalar.indexCast v35
  ![12, v218.toNat]
def k0_off15 (k0_t2 : Fin k0_t2_loop.trips) : Fin 2 → Nat :=
  let c13_i32 : BitVec 32 := 13#32
  let v233 : Index := Scalar.indexCast c13_i32
  let c0_i32_15 : BitVec 32 := 0#32
  let c1_i32_16 : BitVec 32 := 1#32
  let arg11 : BitVec 32 := Scf.iv c0_i32_15 c1_i32_16 k0_t2
  let c16_i32 : BitVec 32 := 16#32
  let v35 : BitVec 32 := Scalar.muli arg11 c16_i32
  let v234 : Index := Scalar.indexCast v35
  ![13, v234.toNat]
def k0_off16 (k0_t2 : Fin k0_t2_loop.trips) : Fin 2 → Nat :=
  let c14_i32 : BitVec 32 := 14#32
  let v249 : Index := Scalar.indexCast c14_i32
  let c0_i32_15 : BitVec 32 := 0#32
  let c1_i32_16 : BitVec 32 := 1#32
  let arg11 : BitVec 32 := Scf.iv c0_i32_15 c1_i32_16 k0_t2
  let c16_i32 : BitVec 32 := 16#32
  let v35 : BitVec 32 := Scalar.muli arg11 c16_i32
  let v250 : Index := Scalar.indexCast v35
  ![14, v250.toNat]
def k0_off17 (k0_t2 : Fin k0_t2_loop.trips) : Fin 2 → Nat :=
  let c15_i32 : BitVec 32 := 15#32
  let v265 : Index := Scalar.indexCast c15_i32
  let c0_i32_15 : BitVec 32 := 0#32
  let c1_i32_16 : BitVec 32 := 1#32
  let arg11 : BitVec 32 := Scf.iv c0_i32_15 c1_i32_16 k0_t2
  let c16_i32 : BitVec 32 := 16#32
  let v35 : BitVec 32 := Scalar.muli arg11 c16_i32
  let v266 : Index := Scalar.indexCast v35
  ![15, v266.toNat]
def k0_off18 (k0_t2 : Fin k0_t2_loop.trips) : Fin 2 → Nat :=
  let c16_i32_40 : BitVec 32 := 16#32
  let v281 : Index := Scalar.indexCast c16_i32_40
  let c0_i32_15 : BitVec 32 := 0#32
  let c1_i32_16 : BitVec 32 := 1#32
  let arg11 : BitVec 32 := Scf.iv c0_i32_15 c1_i32_16 k0_t2
  let c16_i32 : BitVec 32 := 16#32
  let v35 : BitVec 32 := Scalar.muli arg11 c16_i32
  let v282 : Index := Scalar.indexCast v35
  ![16, v282.toNat]
def k0_off19 (k0_t2 : Fin k0_t2_loop.trips) : Fin 2 → Nat :=
  let c17_i32 : BitVec 32 := 17#32
  let v297 : Index := Scalar.indexCast c17_i32
  let c0_i32_15 : BitVec 32 := 0#32
  let c1_i32_16 : BitVec 32 := 1#32
  let arg11 : BitVec 32 := Scf.iv c0_i32_15 c1_i32_16 k0_t2
  let c16_i32 : BitVec 32 := 16#32
  let v35 : BitVec 32 := Scalar.muli arg11 c16_i32
  let v298 : Index := Scalar.indexCast v35
  ![17, v298.toNat]
def k0_off20 (k0_t2 : Fin k0_t2_loop.trips) : Fin 2 → Nat :=
  let c18_i32 : BitVec 32 := 18#32
  let v313 : Index := Scalar.indexCast c18_i32
  let c0_i32_15 : BitVec 32 := 0#32
  let c1_i32_16 : BitVec 32 := 1#32
  let arg11 : BitVec 32 := Scf.iv c0_i32_15 c1_i32_16 k0_t2
  let c16_i32 : BitVec 32 := 16#32
  let v35 : BitVec 32 := Scalar.muli arg11 c16_i32
  let v314 : Index := Scalar.indexCast v35
  ![18, v314.toNat]
def k0_off21 (k0_t2 : Fin k0_t2_loop.trips) : Fin 2 → Nat :=
  let c19_i32 : BitVec 32 := 19#32
  let v329 : Index := Scalar.indexCast c19_i32
  let c0_i32_15 : BitVec 32 := 0#32
  let c1_i32_16 : BitVec 32 := 1#32
  let arg11 : BitVec 32 := Scf.iv c0_i32_15 c1_i32_16 k0_t2
  let c16_i32 : BitVec 32 := 16#32
  let v35 : BitVec 32 := Scalar.muli arg11 c16_i32
  let v330 : Index := Scalar.indexCast v35
  ![19, v330.toNat]
def k0_off22 (k0_t2 : Fin k0_t2_loop.trips) : Fin 2 → Nat :=
  let c20_i32 : BitVec 32 := 20#32
  let v345 : Index := Scalar.indexCast c20_i32
  let c0_i32_15 : BitVec 32 := 0#32
  let c1_i32_16 : BitVec 32 := 1#32
  let arg11 : BitVec 32 := Scf.iv c0_i32_15 c1_i32_16 k0_t2
  let c16_i32 : BitVec 32 := 16#32
  let v35 : BitVec 32 := Scalar.muli arg11 c16_i32
  let v346 : Index := Scalar.indexCast v35
  ![20, v346.toNat]
def k0_off23 (k0_t2 : Fin k0_t2_loop.trips) : Fin 2 → Nat :=
  let c21_i32 : BitVec 32 := 21#32
  let v361 : Index := Scalar.indexCast c21_i32
  let c0_i32_15 : BitVec 32 := 0#32
  let c1_i32_16 : BitVec 32 := 1#32
  let arg11 : BitVec 32 := Scf.iv c0_i32_15 c1_i32_16 k0_t2
  let c16_i32 : BitVec 32 := 16#32
  let v35 : BitVec 32 := Scalar.muli arg11 c16_i32
  let v362 : Index := Scalar.indexCast v35
  ![21, v362.toNat]
def k0_off24 (k0_t2 : Fin k0_t2_loop.trips) : Fin 2 → Nat :=
  let c22_i32 : BitVec 32 := 22#32
  let v377 : Index := Scalar.indexCast c22_i32
  let c0_i32_15 : BitVec 32 := 0#32
  let c1_i32_16 : BitVec 32 := 1#32
  let arg11 : BitVec 32 := Scf.iv c0_i32_15 c1_i32_16 k0_t2
  let c16_i32 : BitVec 32 := 16#32
  let v35 : BitVec 32 := Scalar.muli arg11 c16_i32
  let v378 : Index := Scalar.indexCast v35
  ![22, v378.toNat]
def k0_off25 (k0_t2 : Fin k0_t2_loop.trips) : Fin 2 → Nat :=
  let c23_i32 : BitVec 32 := 23#32
  let v393 : Index := Scalar.indexCast c23_i32
  let c0_i32_15 : BitVec 32 := 0#32
  let c1_i32_16 : BitVec 32 := 1#32
  let arg11 : BitVec 32 := Scf.iv c0_i32_15 c1_i32_16 k0_t2
  let c16_i32 : BitVec 32 := 16#32
  let v35 : BitVec 32 := Scalar.muli arg11 c16_i32
  let v394 : Index := Scalar.indexCast v35
  ![23, v394.toNat]
def k0_off26 (k0_t2 : Fin k0_t2_loop.trips) : Fin 1 → Nat :=
  let c0_i32_15 : BitVec 32 := 0#32
  let c1_i32_16 : BitVec 32 := 1#32
  let arg11 : BitVec 32 := Scf.iv c0_i32_15 c1_i32_16 k0_t2
  let c16_i32 : BitVec 32 := 16#32
  let v35 : BitVec 32 := Scalar.muli arg11 c16_i32
  let v419 : Index := Scalar.indexCast v35
  ![v419.toNat]
def k0_off27 (k0_t2 : Fin k0_t2_loop.trips) : Fin 2 → Nat :=
  let c0_i32_50 : BitVec 32 := 0#32
  let v423 : Index := Scalar.indexCast c0_i32_50
  let c0_i32_15 : BitVec 32 := 0#32
  let c1_i32_16 : BitVec 32 := 1#32
  let arg11 : BitVec 32 := Scf.iv c0_i32_15 c1_i32_16 k0_t2
  let c16_i32 : BitVec 32 := 16#32
  let v35 : BitVec 32 := Scalar.muli arg11 c16_i32
  let v424 : Index := Scalar.indexCast v35
  ![0, v424.toNat]
def k0_off28 (k0_t2 : Fin k0_t2_loop.trips) : Fin 2 → Nat :=
  let c1_i32_51 : BitVec 32 := 1#32
  let v428 : Index := Scalar.indexCast c1_i32_51
  let c0_i32_15 : BitVec 32 := 0#32
  let c1_i32_16 : BitVec 32 := 1#32
  let arg11 : BitVec 32 := Scf.iv c0_i32_15 c1_i32_16 k0_t2
  let c16_i32 : BitVec 32 := 16#32
  let v35 : BitVec 32 := Scalar.muli arg11 c16_i32
  let v429 : Index := Scalar.indexCast v35
  ![1, v429.toNat]
def k0_off29 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_18 : BitVec 32 := 0#32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12800_i32 : BitVec 32 := 12800#32
  let v29 : BitVec 32 := Scalar.muli v28 c12800_i32
  let c0_i32_11 : BitVec 32 := 0#32
  let c1_i32_12 : BitVec 32 := 1#32
  let arg10 : BitVec 32 := Scf.iv c0_i32_11 c1_i32_12 k0_t1
  let c1280_i32 : BitVec 32 := 1280#32
  let v31 : BitVec 32 := Scalar.muli arg10 c1280_i32
  let v32 : BitVec 32 := Scalar.addi v29 v31
  let v33 : BitVec 32 := v32
  ![v18.toNat, 0, v33.toNat]
def k0_off30 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_19_r3 : BitVec 32 := 0#32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c12800_i32 : BitVec 32 := 12800#32
  let v29 : BitVec 32 := Scalar.muli v28 c12800_i32
  let c0_i32_11 : BitVec 32 := 0#32
  let c1_i32_12 : BitVec 32 := 1#32
  let arg10 : BitVec 32 := Scf.iv c0_i32_11 c1_i32_12 k0_t1
  let c1280_i32 : BitVec 32 := 1280#32
  let v31 : BitVec 32 := Scalar.muli arg10 c1280_i32
  let v32 : BitVec 32 := Scalar.addi v29 v31
  let v33 : BitVec 32 := v32
  ![v18.toNat, 0, v33.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x24x160x320 : Shape := ⟨4, ![8, 24, 160, 320]⟩
abbrev S8x2x160x320 : Shape := ⟨4, ![8, 2, 160, 320]⟩
abbrev S_ : Shape := ⟨0, ![]⟩
abbrev S8x2x160x320x1 : Shape := ⟨5, ![8, 2, 160, 320, 1]⟩
abbrev S1 : Shape := ⟨1, ![1]⟩
abbrev S1x1x1x1x1 : Shape := ⟨5, ![1, 1, 1, 1, 1]⟩
abbrev S8x160x320 : Shape := ⟨3, ![8, 160, 320]⟩
abbrev S8x1x160x320 : Shape := ⟨4, ![8, 1, 160, 320]⟩

abbrev nBuf : Space → Nat
  | .hbm => 68
  | .vmem => 0
  | .smem => 0
  | _ => 0

abbrev bufTy : (tb : Table) → Fin (tcTables nBuf tb) → BufTy
  | .hbm, ⟨0, _⟩ => ⟨S8x24x160x320, .f32⟩
  | .hbm, ⟨1, _⟩ => ⟨S8x24x160x320, .f32⟩
  | .hbm, ⟨2, _⟩ => ⟨S8x24x160x320, .f32⟩
  | .hbm, ⟨3, _⟩ => ⟨S8x24x160x320, .i32⟩
  | .hbm, ⟨4, _⟩ => ⟨S8x24x160x320, .f32⟩
  | .hbm, ⟨5, _⟩ => ⟨S8x24x160x320, .i32⟩
  | .hbm, ⟨6, _⟩ => ⟨S8x2x160x320, .i32⟩
  | .hbm, ⟨7, _⟩ => ⟨S_, .i32⟩
  | .hbm, ⟨8, _⟩ => ⟨S8x2x160x320, .i32⟩
  | .hbm, ⟨9, _⟩ => ⟨S8x2x160x320, .i1⟩
  | .hbm, ⟨10, _⟩ => ⟨S_, .i32⟩
  | .hbm, ⟨11, _⟩ => ⟨S8x2x160x320, .i32⟩
  | .hbm, ⟨12, _⟩ => ⟨S8x2x160x320, .i32⟩
  | .hbm, ⟨13, _⟩ => ⟨S8x2x160x320, .i32⟩
  | .hbm, ⟨14, _⟩ => ⟨S8x2x160x320x1, .i32⟩
  | .hbm, ⟨15, _⟩ => ⟨S1, .i32⟩
  | .hbm, ⟨16, _⟩ => ⟨S_, .i32⟩
  | .hbm, ⟨17, _⟩ => ⟨S8x2x160x320x1, .i32⟩
  | .hbm, ⟨18, _⟩ => ⟨S8x2x160x320x1, .i1⟩
  | .hbm, ⟨19, _⟩ => ⟨S1x1x1x1x1, .i32⟩
  | .hbm, ⟨20, _⟩ => ⟨S8x2x160x320x1, .i32⟩
  | .hbm, ⟨21, _⟩ => ⟨S8x2x160x320x1, .i1⟩
  | .hbm, ⟨22, _⟩ => ⟨S8x2x160x320x1, .i1⟩
  | .hbm, ⟨23, _⟩ => ⟨S_, .i1⟩
  | .hbm, ⟨24, _⟩ => ⟨S8x2x160x320, .i1⟩
  | .hbm, ⟨25, _⟩ => ⟨S8x2x160x320, .f32⟩
  | .hbm, ⟨26, _⟩ => ⟨S_, .f32⟩
  | .hbm, ⟨27, _⟩ => ⟨S8x2x160x320, .f32⟩
  | .hbm, ⟨28, _⟩ => ⟨S8x2x160x320, .f32⟩
  | .hbm, ⟨29, _⟩ => ⟨S_, .f32⟩
  | .hbm, ⟨30, _⟩ => ⟨S8x160x320, .f32⟩
  | .hbm, ⟨31, _⟩ => ⟨S_, .f32⟩
  | .hbm, ⟨32, _⟩ => ⟨S8x160x320, .f32⟩
  | .hbm, ⟨33, _⟩ => ⟨S8x160x320, .f32⟩
  | .hbm, ⟨34, _⟩ => ⟨S8x1x160x320, .f32⟩
  | .hbm, ⟨35, _⟩ => ⟨S8x2x160x320, .f32⟩
  | .hbm, ⟨36, _⟩ => ⟨S8x2x160x320, .f32⟩
  | .hbm, ⟨37, _⟩ => ⟨S8x2x160x320, .f32⟩
  | .hbm, ⟨38, _⟩ => ⟨S_, .f32⟩
  | .hbm, ⟨39, _⟩ => ⟨S8x160x320, .f32⟩
  | .hbm, ⟨40, _⟩ => ⟨S8x1x160x320, .f32⟩
  | .hbm, ⟨41, _⟩ => ⟨S8x2x160x320, .f32⟩
  | .hbm, ⟨42, _⟩ => ⟨S8x2x160x320, .f32⟩
  | .hbm, ⟨43, _⟩ => ⟨S_, .i32⟩
  | .hbm, ⟨44, _⟩ => ⟨S8x2x160x320, .i32⟩
  | .hbm, ⟨45, _⟩ => ⟨S8x2x160x320, .i1⟩
  | .hbm, ⟨46, _⟩ => ⟨S_, .i32⟩
  | .hbm, ⟨47, _⟩ => ⟨S8x2x160x320, .i32⟩
  | .hbm, ⟨48, _⟩ => ⟨S8x2x160x320, .i32⟩
  | .hbm, ⟨49, _⟩ => ⟨S8x2x160x320, .i32⟩
  | .hbm, ⟨50, _⟩ => ⟨S8x2x160x320x1, .i32⟩
  | .hbm, ⟨51, _⟩ => ⟨S1, .i32⟩
  | .hbm, ⟨52, _⟩ => ⟨S_, .i32⟩
  | .hbm, ⟨53, _⟩ => ⟨S8x2x160x320x1, .i32⟩
  | .hbm, ⟨54, _⟩ => ⟨S8x2x160x320x1, .i1⟩
  | .hbm, ⟨55, _⟩ => ⟨S1x1x1x1x1, .i32⟩
  | .hbm, ⟨56, _⟩ => ⟨S8x2x160x320x1, .i32⟩
  | .hbm, ⟨57, _⟩ => ⟨S8x2x160x320x1, .i1⟩
  | .hbm, ⟨58, _⟩ => ⟨S8x2x160x320x1, .i1⟩
  | .hbm, ⟨59, _⟩ => ⟨S_, .i1⟩
  | .hbm, ⟨60, _⟩ => ⟨S8x2x160x320, .i1⟩
  | .hbm, ⟨61, _⟩ => ⟨S8x2x160x320, .f32⟩
  | .hbm, ⟨62, _⟩ => ⟨S_, .f32⟩
  | .hbm, ⟨63, _⟩ => ⟨S8x2x160x320, .f32⟩
  | .hbm, ⟨64, _⟩ => ⟨S8x2x160x320, .f32⟩
  | .hbm, ⟨65, _⟩ => ⟨S8x2x160x320, .f32⟩
  | .hbm, ⟨66, _⟩ => ⟨S_, .f32⟩
  | .hbm, ⟨67, _⟩ => ⟨S8x160x320, .f32⟩
  | _, _ => ⟨S8x24x160x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_v2 : Ref sig .tc := ⟨.hbm, 6, rfl⟩
abbrev main_call1_c : Ref sig .tc := ⟨.hbm, 7, rfl⟩
abbrev main_call1_v0 : Ref sig .tc := ⟨.hbm, 8, rfl⟩
abbrev main_call1_v1 : Ref sig .tc := ⟨.hbm, 9, rfl⟩
abbrev main_call1_c_0 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_c_1 : Ref sig .tc := ⟨.hbm, 15, rfl⟩
abbrev main_call1_c_2 : Ref sig .tc := ⟨.hbm, 16, rfl⟩
abbrev main_call1_v6 : Ref sig .tc := ⟨.hbm, 17, rfl⟩
abbrev main_call1_v7 : Ref sig .tc := ⟨.hbm, 18, rfl⟩
abbrev main_call1_v8 : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_3 : Ref sig .tc := ⟨.hbm, 23, rfl⟩
abbrev main_call1_v12 : Ref sig .tc := ⟨.hbm, 24, rfl⟩
abbrev main_call1_v13 : Ref sig .tc := ⟨.hbm, 25, rfl⟩
abbrev main_call1_cst : Ref sig .tc := ⟨.hbm, 26, rfl⟩
abbrev main_call1_v14 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst_1 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_call2_c : Ref sig .tc := ⟨.hbm, 43, rfl⟩
abbrev main_call2_v0 : Ref sig .tc := ⟨.hbm, 44, rfl⟩
abbrev main_call2_v1 : Ref sig .tc := ⟨.hbm, 45, rfl⟩
abbrev main_call2_c_0 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_c_1 : Ref sig .tc := ⟨.hbm, 51, rfl⟩
abbrev main_call2_c_2 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_3 : Ref sig .tc := ⟨.hbm, 59, rfl⟩
abbrev main_call2_v12 : Ref sig .tc := ⟨.hbm, 60, rfl⟩
abbrev main_call2_v13 : Ref sig .tc := ⟨.hbm, 61, rfl⟩
abbrev main_call2_cst : Ref sig .tc := ⟨.hbm, 62, rfl⟩
abbrev main_call2_v14 : Ref sig .tc := ⟨.hbm, 63, rfl⟩
abbrev main_v15 : Ref sig .tc := ⟨.hbm, 64, rfl⟩
abbrev main_v16 : Ref sig .tc := ⟨.hbm, 65, rfl⟩
abbrev main_cst_2 : Ref sig .tc := ⟨.hbm, 66, rfl⟩
abbrev main_v17 : Ref sig .tc := ⟨.hbm, 67, rfl⟩

abbrev nD : Nat := 1
abbrev τ : Topo := Topo.v7x

variable {F : FTy → Type} [FloatOps F]
-- ==== Proof.Ideal.Best.lean ====
/-
  The running pair of best channels of one pixel, as the kernel keeps it: the greatest cost seen so far with its
  disparity sample, and the second greatest with its own. A channel enters on a strict comparison, so of equal costs the
  earlier channel stays ahead. From the pair the kernel computes the two probabilities and the prediction. Everything
  here is stated at one pixel and over any float instance; the last section says that the kernel's vector payloads,
  lane by lane, are these functions.
-/
module

public import proofs.«01_k».proof.Proof.Gen.KernelIdeal
public import proofs.«01_k».proof.Proof.Gen.KernelIdeal.Skeleton

@[expose] public section

noncomputable section

namespace Cert.KernelIdeal.Top2

open Cert.KernelIdeal Cert.KernelIdeal.Gen Idealize.ShloMosaic

variable {F : FTy → Type} [FloatOps F]

/-- The two best channels so far: costs `m1`, `m2` and disparity samples `d1`, `d2`. -/
structure Best (F : FTy → Type) where
  m1 : F .f32
  d1 : F .f32
  m2 : F .f32
  d2 : F .f32

/-- After the first two channels. -/
def Best.start (v0 e0 v1 e1 : F .f32) : Best F where
  m1 := Scalar.select (FloatOps.cmpf .ogt v1 v0) v1 v0
  d1 := Scalar.select (FloatOps.cmpf .ogt v1 v0) e1 e0
  m2 := Scalar.select (FloatOps.cmpf .ogt v1 v0) v0 v1
  d2 := Scalar.select (FloatOps.cmpf .ogt v1 v0) e0 e1

/-- After one more channel of cost `v` and sample `e`. -/
def Best.next (b : Best F) (v e : F .f32) : Best F where
  m1 := Scalar.select (FloatOps.cmpf .ogt v b.m1) v b.m1
  d1 := Scalar.select (FloatOps.cmpf .ogt v b.m1) e b.d1
  m2 := Scalar.select (FloatOps.cmpf .ogt v b.m1) b.m1 (Scalar.select (FloatOps.cmpf .ogt v b.m2) v b.m2)
  d2 := Scalar.select (FloatOps.cmpf .ogt v b.m1) b.d1 (Scalar.select (FloatOps.cmpf .ogt v b.m2) e b.d2)

/-- The pair after channels `0 … n + 1` of costs `C` and samples `E`. -/
def best (C E : ℕ → F .f32) : ℕ → Best F
  | 0 => Best.start (C 0) (E 0) (C 1) (E 1)
  | n + 1 => (best C E n).next (C (n + 2)) (E (n + 2))

/-- The exponential of the second cost less the first; one plus it; the two probabilities; the prediction. -/
def Best.ex (b : Best F) : F .f32 := FloatOps.exp (FloatOps.subf b.m2 b.m1)
def Best.den (b : Best F) : F .f32 := FloatOps.addf (Scalar.ofBits .f32 0x3F800000#32) b.ex
def Best.p1 (b : Best F) : F .f32 := FloatOps.divf b.ex b.den
def Best.p0 (b : Best F) : F .f32 := FloatOps.divf (Scalar.ofBits .f32 0x3F800000#32) b.den
def Best.pred (b : Best F) : F .f32 := FloatOps.addf (FloatOps.mulf b.d1 b.p0) (FloatOps.mulf b.d2 b.p1)

/-! ## The payloads, lane by lane

`w k` and `u k` are the sixteen costs and the sixteen samples loaded for channel `k`. -/

section Lanes

variable (w u : ℕ → Vec F S1x16 .f32)

/-- A loaded row as sixteen lanes. -/
def lanes (w : ℕ → Vec F S1x16 .f32) (k : ℕ) : FVec F S16 .f32 := shapeCast S16 (w k) shapeCasts_S1x16_S16

/-- The pair at each lane. -/
def bests (n : ℕ) (l : S16.Idx) : Best F := best (fun k => lanes w k l) (fun k => lanes u k l) n

def M1 (n : ℕ) : FVec F S16 .f32 := fun l => (bests w u n l).m1
def D1 (n : ℕ) : FVec F S16 .f32 := fun l => (bests w u n l).d1
def M2 (n : ℕ) : FVec F S16 .f32 := fun l => (bests w u n l).m2
def D2 (n : ℕ) : FVec F S16 .f32 := fun l => (bests w u n l).d2
/-- The next channel's comparisons with the first and with the second. -/
def G1 (n : ℕ) : IVec S16 1 := cmpf .ogt (lanes w (n + 2)) (M1 w u n)
def G2 (n : ℕ) : IVec S16 1 := cmpf .ogt (lanes w (n + 2)) (M2 w u n)

theorem pay14_eq : k0_pay14 (w 0) (u 0) (w 1) (u 1) (w 2) (u 2) = D2 w u 1 := rfl
theorem pay15_eq : k0_pay15 (w 0) (w 1) (w 2) = M1 w u 1 := rfl
theorem pay16_eq : k0_pay16 (w 0) (u 0) (w 1) (u 1) (w 2) (u 2) = D1 w u 1 := rfl
theorem pay17_eq : k0_pay17 (w 3) = lanes w 3 := rfl
theorem pay18_eq : k0_pay18 (u 3) = lanes u 3 := rfl
theorem pay19_eq : k0_pay19 (w 0) (w 1) (w 2) (w 3) = G1 w u 1 := rfl
theorem pay20_eq : k0_pay20 (w 0) (w 1) (w 2) (w 3) = G2 w u 1 := rfl
theorem pay21_eq : k0_pay21 (w 0) (w 1) (w 2) (w 3) = M2 w u 2 := rfl
theorem pay42_eq : k0_pay42 (M1 w u 1) (lanes w 3) (G1 w u 1) (M2 w u 2) (w 4) (w 5) (w 6) = M2 w u 5 := rfl
theorem pay43_eq : k0_pay43 (D2 w u 1) (M1 w u 1) (D1 w u 1) (lanes w 3) (lanes u 3) (G1 w u 1) (G2 w u 1) (M2 w u 2) (w 4) (u 4) (w 5) (u 5) (w 6) (u 6) = D2 w u 5 := rfl
theorem pay44_eq : k0_pay44 (M1 w u 1) (lanes w 3) (G1 w u 1) (w 4) (w 5) (w 6) = M1 w u 5 := rfl
theorem pay45_eq : k0_pay45 (M1 w u 1) (D1 w u 1) (lanes w 3) (lanes u 3) (G1 w u 1) (w 4) (u 4) (w 5) (u 5) (w 6) (u 6) = D1 w u 5 := rfl
theorem pay64_eq : k0_pay64 (M2 w u 5) (M1 w u 5) (w 7) (w 8) (w 9) = M2 w u 8 := rfl
theorem pay65_eq : k0_pay65 (M2 w u 5) (D2 w u 5) (M1 w u 5) (D1 w u 5) (w 7) (u 7) (w 8) (u 8) (w 9) (u 9) = D2 w u 8 := rfl
theorem pay66_eq : k0_pay66 (M1 w u 5) (w 7) (w 8) (w 9) = M1 w u 8 := rfl
theorem pay67_eq : k0_pay67 (M1 w u 5) (D1 w u 5) (w 7) (u 7) (w 8) (u 8) (w 9) (u 9) = D1 w u 8 := rfl
theorem pay68_eq : k0_pay68 (w 10) = lanes w 10 := rfl
theorem pay87_eq : k0_pay87 (M2 w u 8) (D2 w u 8) (M1 w u 8) (D1 w u 8) (lanes w 10) (u 10) (w 11) (u 11) (w 12) (u 12) = D2 w u 11 := rfl
theorem pay88_eq : k0_pay88 (M1 w u 8) (lanes w 10) (w 11) (w 12) = M1 w u 11 := rfl
theorem pay89_eq : k0_pay89 (M1 w u 8) (D1 w u 8) (lanes w 10) (u 10) (w 11) (u 11) (w 12) (u 12) = D1 w u 11 := rfl
theorem pay90_eq : k0_pay90 (w 13) = lanes w 13 := rfl
theorem pay91_eq : k0_pay91 (u 13) = lanes u 13 := rfl
theorem pay92_eq : k0_pay92 (M1 w u 8) (lanes w 10) (w 11) (w 12) (w 13) = G1 w u 11 := rfl
theorem pay93_eq : k0_pay93 (M2 w u 8) (M1 w u 8) (lanes w 10) (w 11) (w 12) (w 13) = G2 w u 11 := rfl
theorem pay94_eq : k0_pay94 (M2 w u 8) (M1 w u 8) (lanes w 10) (w 11) (w 12) (w 13) = M2 w u 12 := rfl
theorem pay115_eq : k0_pay115 (M1 w u 11) (lanes w 13) (G1 w u 11) (M2 w u 12) (w 14) (w 15) (w 16) = M2 w u 15 := rfl
theorem pay116_eq : k0_pay116 (D2 w u 11) (M1 w u 11) (D1 w u 11) (lanes w 13) (lanes u 13) (G1 w u 11) (G2 w u 11) (M2 w u 12) (w 14) (u 14) (w 15) (u 15) (w 16) (u 16) = D2 w u 15 := rfl
theorem pay117_eq : k0_pay117 (M1 w u 11) (lanes w 13) (G1 w u 11) (w 14) (w 15) (w 16) = M1 w u 15 := rfl
theorem pay118_eq : k0_pay118 (M1 w u 11) (D1 w u 11) (lanes w 13) (lanes u 13) (G1 w u 11) (w 14) (u 14) (w 15) (u 15) (w 16) (u 16) = D1 w u 15 := rfl
theorem pay137_eq : k0_pay137 (M2 w u 15) (M1 w u 15) (w 17) (w 18) (w 19) = M2 w u 18 := rfl
theorem pay138_eq : k0_pay138 (M2 w u 15) (D2 w u 15) (M1 w u 15) (D1 w u 15) (w 17) (u 17) (w 18) (u 18) (w 19) (u 19) = D2 w u 18 := rfl
theorem pay139_eq : k0_pay139 (M1 w u 15) (w 17) (w 18) (w 19) = M1 w u 18 := rfl
theorem pay140_eq : k0_pay140 (M1 w u 15) (D1 w u 15) (w 17) (u 17) (w 18) (u 18) (w 19) (u 19) = D1 w u 18 := rfl
theorem pay141_eq : k0_pay141 (w 20) = lanes w 20 := rfl
theorem pay160_eq : k0_pay160 (M2 w u 18) (D2 w u 18) (M1 w u 18) (D1 w u 18) (lanes w 20) (u 20) (w 21) (u 21) (w 22) (u 22) = D2 w u 21 := rfl
theorem pay161_eq : k0_pay161 (M1 w u 18) (lanes w 20) (w 21) (w 22) = M1 w u 21 := rfl
theorem pay162_eq : k0_pay162 (M1 w u 18) (D1 w u 18) (lanes w 20) (u 20) (w 21) (u 21) (w 22) (u 22) = D1 w u 21 := rfl
theorem pay163_eq : k0_pay163 (w 23) = lanes w 23 := rfl
theorem pay164_eq : k0_pay164 (u 23) = lanes u 23 := rfl
theorem pay165_eq : k0_pay165 (M1 w u 18) (lanes w 20) (w 21) (w 22) (w 23) = G1 w u 21 := rfl
theorem pay166_eq : k0_pay166 (M2 w u 18) (M1 w u 18) (lanes w 20) (w 21) (w 22) (w 23) = G2 w u 21 := rfl
theorem pay167_eq : k0_pay167 (M2 w u 18) (M1 w u 18) (lanes w 20) (w 21) (w 22) (w 23) = M2 w u 22 := rfl

theorem pay170_eq : k0_pay170 (M1 w u 21) (lanes w 23) (G1 w u 21) (M2 w u 22) = fun l => (bests w u 22 l).p1 := rfl
theorem pay171_eq : k0_pay171 (M1 w u 21) (lanes w 23) (G1 w u 21) (M2 w u 22) = fun l => (bests w u 22 l).p0 := rfl

/-- What the three stores of one trip write: the prediction's lanes, and the two probabilities' as rows. -/
theorem pay172_eq : k0_pay172 (D2 w u 21) (M1 w u 21) (D1 w u 21) (lanes w 23) (lanes u 23) (G1 w u 21) (G2 w u 21) (M2 w u 22)
    = shapeCast S16 (fun l => (bests w u 22 l).pred) shapeCasts_S16_S16 := rfl
theorem pay173_eq : k0_pay173 (M1 w u 21) (lanes w 23) (G1 w u 21) (M2 w u 22) = shapeCast S1x16 (fun l => (bests w u 22 l).p0) shapeCasts_S16_S1x16 := rfl
theorem pay174_eq : k0_pay174 (M1 w u 21) (lanes w 23) (G1 w u 21) (M2 w u 22) = shapeCast S1x16 (fun l => (bests w u 22 l).p1) shapeCasts_S16_S1x16 := rfl

end Lanes

end Cert.KernelIdeal.Top2

end
-- ==== Proof.Ideal.Tile.lean ====
/-
  One vector subcore's task.
-/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.ShareLeaves
public import Idealize.ShloMosaic.Lib.ValueIdx
public import Idealize.ShloMosaic.Lib.ValueLayout
public import Idealize.ShloMosaic.Lib.WritesUnit
public import Idealize.ShloMosaic.Lib.Tactic
public import proofs.«01_k».proof.Proof.Ideal.Best

@[expose] public section

set_option maxRecDepth 16384

noncomputable section

namespace Cert.KernelIdeal.Top2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the scratch buffers -/

abbrev xLoc (d : Dev nD) : Loc nD τ sig := (SparseCore.T d).loc main_v0
abbrev yLoc (d : Dev nD) : Loc nD τ sig := (SparseCore.T d).loc main_v1
abbrev pLoc (d : Dev nD) : Loc nD τ sig := (SparseCore.T d).loc main_v2_0
abbrev qLoc (d : Dev nD) : Loc nD τ sig := (SparseCore.T d).loc main_v2_1

abbrev xM : Memref sig .scVector .hbm S8x24x51200 .f32 := Memref.whole main_v0_scv
abbrev yM : Memref sig .scVector .hbm S8x24x51200 .f32 := Memref.whole main_v1_scv
abbrev pM : Memref sig .scVector .hbm S8x1x51200 .f32 := Memref.whole main_v2_0_scv
abbrev qM : Memref sig .scVector .hbm S8x2x51200 .f32 := Memref.whole main_v2_1_scv
abbrev cM : Memref sig .scVector .vmem S24x1280 .f32 := Memref.whole cc0_scratch0
abbrev eM : Memref sig .scVector .vmem S24x1280 .f32 := Memref.whole cc0_scratch1
abbrev oM : Memref sig .scVector .vmem S1280 .f32 := Memref.whole cc0_scratch2
abbrev bM : Memref sig .scVector .vmem S2x1280 .f32 := Memref.whole cc0_scratch3

abbrev cV (L : grid0.Coords) : Fin τ.nSC := (L 0).castLE hcore0
abbrev jV (L : grid0.Coords) : Fin τ.nSub := (L 1).castLE hsub0
/-- The subcore's thread on device `d`. -/
abbrev Th (d : Dev nD) (L : grid0.Coords) : Thread nD τ := V d (cV L) (jV L)

variable [FloatOps F]

/-! ## The seven parts of one trip of the inner loop: loads only -/

section Parts

variable (d : Dev nD) (L : grid0.Coords)
variable (f : (cM).view.ty.Contents (Elt F)) (g : (eM).view.ty.Contents (Elt F)) (t : Fin k0_t2_loop.trips)

/-- Sixteen lanes of channel `k`'s row, from column `16 t`. -/
def rowAt (f : S24x1280.Idx → F .f32) (t : Fin k0_t2_loop.trips) (k : ℕ) : Vec F S1x16 .f32 :=
  fun x => f (ix2 (Fin.ofNat 24 k) ⟨16 * t.val + (x 1).val, by
    have h : (x 1).val < 16 := (x 1).isLt
    have h' : t.val < 80 := t.isLt
    omega⟩)

/-- The two rows' buffers of the subcore. -/
abbrev rows : sProp 𝕄 := iprop(((cM).view.loc (Th d L) ↦{fullShare} f) ∗ ((eM).view.loc (Th d L) ↦{fullShare} g))

omit [FloatOps F] in
/-- A load of sixteen columns of a row of the costs' buffer, and of the samples'. -/
theorem readC (k : ℕ) {off : Fin 2 → ℕ} {inb} (h : off = ![k, 16 * t.val]) (hk : Nat.blt k 24 = true) :
    View.readAt (Elt F) (cM).view (Rect.unit (s := S24x1280) off S1x16.size inb).toLoadRect f = rowAt f t k := by
  subst h
  have hk' : k % 24 = k := Nat.mod_eq_of_lt (Nat.blt_eq.mp hk)
  funext x
  show f _ = f _
  congr 1; funext a
  match a with
  | 0 =>
    have h0 : (x 0).val < 1 := (x 0).isLt
    refine Fin.ext ?_
    show k + 1 * (x 0).val = k % 24
    omega
  | 1 =>
    refine Fin.ext ?_
    show 16 * t.val + 1 * (x 1).val = 16 * t.val + (x 1).val
    omega

omit [FloatOps F] in
theorem readE (k : ℕ) {off : Fin 2 → ℕ} {inb} (h : off = ![k, 16 * t.val]) (hk : Nat.blt k 24 = true) :
    View.readAt (Elt F) (eM).view (Rect.unit (s := S24x1280) off S1x16.size inb).toLoadRect g = rowAt g t k :=
  readC g t k h hk

/-- Part 1: the first four channels. -/
theorem part1_run : rows d L f g ⊢ wp frame (wpE (defs₀ (F := F)) 𝒱₀ (Th d L) none) Set.univ
    (k0_part1 L xM (Memref.isWhole_whole _) yM (Memref.isWhole_whole _) pM (Memref.isWhole_whole _) qM (Memref.isWhole_whole _)
      cM (Memref.isWhole_whole _) eM (Memref.isWhole_whole _) oM (Memref.isWhole_whole _) bM (Memref.isWhole_whole _)
      cc0_scoped0 cc0_scoped1 cc0_scoped2 cc0_scoped3 0#32 1#32 t)
    fun r => iprop(⌜r.2.1 = D2 (rowAt f t) (rowAt g t) 1⌝ ∗ ⌜r.2.2.1 = M1 (rowAt f t) (rowAt g t) 1⌝ ∗ ⌜r.2.2.2.1 = D1 (rowAt f t) (rowAt g t) 1⌝ ∗ ⌜r.2.2.2.2.1 = lanes (rowAt f t) 3⌝ ∗ ⌜r.2.2.2.2.2.1 = lanes (rowAt g t) 3⌝ ∗ ⌜r.2.2.2.2.2.2.1 = G1 (rowAt f t) (rowAt g t) 1⌝ ∗ ⌜r.2.2.2.2.2.2.2.1 = G2 (rowAt f t) (rowAt g t) 1⌝ ∗ ⌜r.2.2.2.2.2.2.2.2 = M2 (rowAt f t) (rowAt g t) 2⌝
      ∗ rows d L f g) := by
  simp only [k0_part1_eq_skeleton]; unfold k0_part1_skel rows
  iintro ⟨Hc, He⟩
  sl_exec
  sl_step
  simp only [readC f t 0 (k0_off2_eq t) rfl, readE g t 0 (k0_off2_eq t) rfl, readC f t 1 (k0_off3_eq t) rfl, readE g t 1 (k0_off3_eq t) rfl, readC f t 2 (k0_off4_eq t) rfl, readE g t 2 (k0_off4_eq t) rfl, readC f t 3 (k0_off5_eq t) rfl, readE g t 3 (k0_off5_eq t) rfl]
  repeat (isplitr [Hc He]; · ipureintro; rfl)
  isplitl [Hc] <;> iassumption

/-- Part 2, from what the part before it returns. -/
theorem part2_run (v : BitVec 32) (a0 : FVec F S16 .f32) (a1 : FVec F S16 .f32) (a2 : FVec F S16 .f32) (a3 : FVec F S16 .f32) (a4 : FVec F S16 .f32) (a5 : IVec S16 1) (a6 : IVec S16 1) (a7 : FVec F S16 .f32)
    (h0 : a0 = D2 (rowAt f t) (rowAt g t) 1) (h1 : a1 = M1 (rowAt f t) (rowAt g t) 1) (h2 : a2 = D1 (rowAt f t) (rowAt g t) 1) (h3 : a3 = lanes (rowAt f t) 3) (h4 : a4 = lanes (rowAt g t) 3) (h5 : a5 = G1 (rowAt f t) (rowAt g t) 1) (h6 : a6 = G2 (rowAt f t) (rowAt g t) 1) (h7 : a7 = M2 (rowAt f t) (rowAt g t) 2) : rows d L f g ⊢ wp frame (wpE (defs₀ (F := F)) 𝒱₀ (Th d L) none) Set.univ
    (k0_part2 L xM (Memref.isWhole_whole _) yM (Memref.isWhole_whole _) pM (Memref.isWhole_whole _) qM (Memref.isWhole_whole _)
      cM (Memref.isWhole_whole _) eM (Memref.isWhole_whole _) oM (Memref.isWhole_whole _) bM (Memref.isWhole_whole _)
      cc0_scoped0 cc0_scoped1 cc0_scoped2 cc0_scoped3 t v a0 a1 a2 a3 a4 a5 a6 a7)
    fun r => iprop(⌜r.1 = M2 (rowAt f t) (rowAt g t) 5⌝ ∗ ⌜r.2.1 = D2 (rowAt f t) (rowAt g t) 5⌝ ∗ ⌜r.2.2.1 = M1 (rowAt f t) (rowAt g t) 5⌝ ∗ ⌜r.2.2.2 = D1 (rowAt f t) (rowAt g t) 5⌝
      ∗ rows d L f g) := by
  subst h0 h1 h2 h3 h4 h5 h6 h7
  simp only [k0_part2_eq_skeleton]; unfold k0_part2_skel rows
  iintro ⟨Hc, He⟩
  sl_exec
  sl_step
  simp only [readC f t 4 (k0_off6_eq t) rfl, readE g t 4 (k0_off6_eq t) rfl, readC f t 5 (k0_off7_eq t) rfl, readE g t 5 (k0_off7_eq t) rfl, readC f t 6 (k0_off8_eq t) rfl, readE g t 6 (k0_off8_eq t) rfl]
  repeat (isplitr [Hc He]; · ipureintro; rfl)
  isplitl [Hc] <;> iassumption

/-- Part 3, from what the part before it returns. -/
theorem part3_run (v : BitVec 32) (a0 : FVec F S16 .f32) (a1 : FVec F S16 .f32) (a2 : FVec F S16 .f32) (a3 : FVec F S16 .f32)
    (h0 : a0 = M2 (rowAt f t) (rowAt g t) 5) (h1 : a1 = D2 (rowAt f t) (rowAt g t) 5) (h2 : a2 = M1 (rowAt f t) (rowAt g t) 5) (h3 : a3 = D1 (rowAt f t) (rowAt g t) 5) : rows d L f g ⊢ wp frame (wpE (defs₀ (F := F)) 𝒱₀ (Th d L) none) Set.univ
    (k0_part3 L xM (Memref.isWhole_whole _) yM (Memref.isWhole_whole _) pM (Memref.isWhole_whole _) qM (Memref.isWhole_whole _)
      cM (Memref.isWhole_whole _) eM (Memref.isWhole_whole _) oM (Memref.isWhole_whole _) bM (Memref.isWhole_whole _)
      cc0_scoped0 cc0_scoped1 cc0_scoped2 cc0_scoped3 t v a0 a1 a2 a3)
    fun r => iprop(⌜r.1 = M2 (rowAt f t) (rowAt g t) 8⌝ ∗ ⌜r.2.1 = D2 (rowAt f t) (rowAt g t) 8⌝ ∗ ⌜r.2.2.1 = M1 (rowAt f t) (rowAt g t) 8⌝ ∗ ⌜r.2.2.2.1 = D1 (rowAt f t) (rowAt g t) 8⌝ ∗ ⌜r.2.2.2.2 = lanes (rowAt f t) 10⌝
      ∗ rows d L f g) := by
  subst h0 h1 h2 h3
  simp only [k0_part3_eq_skeleton]; unfold k0_part3_skel rows
  iintro ⟨Hc, He⟩
  sl_exec
  sl_step
  simp only [readC f t 7 (k0_off9_eq t) rfl, readE g t 7 (k0_off9_eq t) rfl, readC f t 8 (k0_off10_eq t) rfl, readE g t 8 (k0_off10_eq t) rfl, readC f t 9 (k0_off11_eq t) rfl, readE g t 9 (k0_off11_eq t) rfl, readC f t 10 (k0_off12_eq t) rfl, readE g t 10 (k0_off12_eq t) rfl]
  repeat (isplitr [Hc He]; · ipureintro; rfl)
  isplitl [Hc] <;> iassumption

/-- Part 4, from what the part before it returns. -/
theorem part4_run (v : BitVec 32) (a0 : FVec F S16 .f32) (a1 : FVec F S16 .f32) (a2 : FVec F S16 .f32) (a3 : FVec F S16 .f32) (a4 : FVec F S16 .f32)
    (h0 : a0 = M2 (rowAt f t) (rowAt g t) 8) (h1 : a1 = D2 (rowAt f t) (rowAt g t) 8) (h2 : a2 = M1 (rowAt f t) (rowAt g t) 8) (h3 : a3 = D1 (rowAt f t) (rowAt g t) 8) (h4 : a4 = lanes (rowAt f t) 10) : rows d L f g ⊢ wp frame (wpE (defs₀ (F := F)) 𝒱₀ (Th d L) none) Set.univ
    (k0_part4 L xM (Memref.isWhole_whole _) yM (Memref.isWhole_whole _) pM (Memref.isWhole_whole _) qM (Memref.isWhole_whole _)
      cM (Memref.isWhole_whole _) eM (Memref.isWhole_whole _) oM (Memref.isWhole_whole _) bM (Memref.isWhole_whole _)
      cc0_scoped0 cc0_scoped1 cc0_scoped2 cc0_scoped3 t v a0 a1 a2 a3 a4)
    fun r => iprop(⌜r.1 = D2 (rowAt f t) (rowAt g t) 11⌝ ∗ ⌜r.2.1 = M1 (rowAt f t) (rowAt g t) 11⌝ ∗ ⌜r.2.2.1 = D1 (rowAt f t) (rowAt g t) 11⌝ ∗ ⌜r.2.2.2.1 = lanes (rowAt f t) 13⌝ ∗ ⌜r.2.2.2.2.1 = lanes (rowAt g t) 13⌝ ∗ ⌜r.2.2.2.2.2.1 = G1 (rowAt f t) (rowAt g t) 11⌝ ∗ ⌜r.2.2.2.2.2.2.1 = G2 (rowAt f t) (rowAt g t) 11⌝ ∗ ⌜r.2.2.2.2.2.2.2 = M2 (rowAt f t) (rowAt g t) 12⌝
      ∗ rows d L f g) := by
  subst h0 h1 h2 h3 h4
  simp only [k0_part4_eq_skeleton]; unfold k0_part4_skel rows
  iintro ⟨Hc, He⟩
  sl_exec
  sl_step
  simp only [readC f t 10 (k0_off12_eq t) rfl, readE g t 10 (k0_off12_eq t) rfl, readC f t 11 (k0_off13_eq t) rfl, readE g t 11 (k0_off13_eq t) rfl, readC f t 12 (k0_off14_eq t) rfl, readE g t 12 (k0_off14_eq t) rfl, readC f t 13 (k0_off15_eq t) rfl, readE g t 13 (k0_off15_eq t) rfl]
  repeat (isplitr [Hc He]; · ipureintro; rfl)
  isplitl [Hc] <;> iassumption

/-- Part 5, from what the part before it returns. -/
theorem part5_run (v : BitVec 32) (a0 : FVec F S16 .f32) (a1 : FVec F S16 .f32) (a2 : FVec F S16 .f32) (a3 : FVec F S16 .f32) (a4 : FVec F S16 .f32) (a5 : IVec S16 1) (a6 : IVec S16 1) (a7 : FVec F S16 .f32)
    (h0 : a0 = D2 (rowAt f t) (rowAt g t) 11) (h1 : a1 = M1 (rowAt f t) (rowAt g t) 11) (h2 : a2 = D1 (rowAt f t) (rowAt g t) 11) (h3 : a3 = lanes (rowAt f t) 13) (h4 : a4 = lanes (rowAt g t) 13) (h5 : a5 = G1 (rowAt f t) (rowAt g t) 11) (h6 : a6 = G2 (rowAt f t) (rowAt g t) 11) (h7 : a7 = M2 (rowAt f t) (rowAt g t) 12) : rows d L f g ⊢ wp frame (wpE (defs₀ (F := F)) 𝒱₀ (Th d L) none) Set.univ
    (k0_part5 L xM (Memref.isWhole_whole _) yM (Memref.isWhole_whole _) pM (Memref.isWhole_whole _) qM (Memref.isWhole_whole _)
      cM (Memref.isWhole_whole _) eM (Memref.isWhole_whole _) oM (Memref.isWhole_whole _) bM (Memref.isWhole_whole _)
      cc0_scoped0 cc0_scoped1 cc0_scoped2 cc0_scoped3 t v a0 a1 a2 a3 a4 a5 a6 a7)
    fun r => iprop(⌜r.1 = M2 (rowAt f t) (rowAt g t) 15⌝ ∗ ⌜r.2.1 = D2 (rowAt f t) (rowAt g t) 15⌝ ∗ ⌜r.2.2.1 = M1 (rowAt f t) (rowAt g t) 15⌝ ∗ ⌜r.2.2.2 = D1 (rowAt f t) (rowAt g t) 15⌝
      ∗ rows d L f g) := by
  subst h0 h1 h2 h3 h4 h5 h6 h7
  simp only [k0_part5_eq_skeleton]; unfold k0_part5_skel rows
  iintro ⟨Hc, He⟩
  sl_exec
  sl_step
  simp only [readC f t 14 (k0_off16_eq t) rfl, readE g t 14 (k0_off16_eq t) rfl, readC f t 15 (k0_off17_eq t) rfl, readE g t 15 (k0_off17_eq t) rfl, readC f t 16 (k0_off18_eq t) rfl, readE g t 16 (k0_off18_eq t) rfl]
  repeat (isplitr [Hc He]; · ipureintro; rfl)
  isplitl [Hc] <;> iassumption

/-- Part 6, from what the part before it returns. -/
theorem part6_run (v : BitVec 32) (a0 : FVec F S16 .f32) (a1 : FVec F S16 .f32) (a2 : FVec F S16 .f32) (a3 : FVec F S16 .f32)
    (h0 : a0 = M2 (rowAt f t) (rowAt g t) 15) (h1 : a1 = D2 (rowAt f t) (rowAt g t) 15) (h2 : a2 = M1 (rowAt f t) (rowAt g t) 15) (h3 : a3 = D1 (rowAt f t) (rowAt g t) 15) : rows d L f g ⊢ wp frame (wpE (defs₀ (F := F)) 𝒱₀ (Th d L) none) Set.univ
    (k0_part6 L xM (Memref.isWhole_whole _) yM (Memref.isWhole_whole _) pM (Memref.isWhole_whole _) qM (Memref.isWhole_whole _)
      cM (Memref.isWhole_whole _) eM (Memref.isWhole_whole _) oM (Memref.isWhole_whole _) bM (Memref.isWhole_whole _)
      cc0_scoped0 cc0_scoped1 cc0_scoped2 cc0_scoped3 t v a0 a1 a2 a3)
    fun r => iprop(⌜r.1 = M2 (rowAt f t) (rowAt g t) 18⌝ ∗ ⌜r.2.1 = D2 (rowAt f t) (rowAt g t) 18⌝ ∗ ⌜r.2.2.1 = M1 (rowAt f t) (rowAt g t) 18⌝ ∗ ⌜r.2.2.2.1 = D1 (rowAt f t) (rowAt g t) 18⌝ ∗ ⌜r.2.2.2.2 = lanes (rowAt f t) 20⌝
      ∗ rows d L f g) := by
  subst h0 h1 h2 h3
  simp only [k0_part6_eq_skeleton]; unfold k0_part6_skel rows
  iintro ⟨Hc, He⟩
  sl_exec
  sl_step
  simp only [readC f t 17 (k0_off19_eq t) rfl, readE g t 17 (k0_off19_eq t) rfl, readC f t 18 (k0_off20_eq t) rfl, readE g t 18 (k0_off20_eq t) rfl, readC f t 19 (k0_off21_eq t) rfl, readE g t 19 (k0_off21_eq t) rfl, readC f t 20 (k0_off22_eq t) rfl, readE g t 20 (k0_off22_eq t) rfl]
  repeat (isplitr [Hc He]; · ipureintro; rfl)
  isplitl [Hc] <;> iassumption

/-- Part 7, from what the part before it returns. -/
theorem part7_run (v : BitVec 32) (a0 : FVec F S16 .f32) (a1 : FVec F S16 .f32) (a2 : FVec F S16 .f32) (a3 : FVec F S16 .f32) (a4 : FVec F S16 .f32)
    (h0 : a0 = M2 (rowAt f t) (rowAt g t) 18) (h1 : a1 = D2 (rowAt f t) (rowAt g t) 18) (h2 : a2 = M1 (rowAt f t) (rowAt g t) 18) (h3 : a3 = D1 (rowAt f t) (rowAt g t) 18) (h4 : a4 = lanes (rowAt f t) 20) : rows d L f g ⊢ wp frame (wpE (defs₀ (F := F)) 𝒱₀ (Th d L) none) Set.univ
    (k0_part7 L xM (Memref.isWhole_whole _) yM (Memref.isWhole_whole _) pM (Memref.isWhole_whole _) qM (Memref.isWhole_whole _)
      cM (Memref.isWhole_whole _) eM (Memref.isWhole_whole _) oM (Memref.isWhole_whole _) bM (Memref.isWhole_whole _)
      cc0_scoped0 cc0_scoped1 cc0_scoped2 cc0_scoped3 t v a0 a1 a2 a3 a4)
    fun r => iprop(⌜r.1 = D2 (rowAt f t) (rowAt g t) 21⌝ ∗ ⌜r.2.1 = M1 (rowAt f t) (rowAt g t) 21⌝ ∗ ⌜r.2.2.1 = D1 (rowAt f t) (rowAt g t) 21⌝ ∗ ⌜r.2.2.2.1 = lanes (rowAt f t) 23⌝ ∗ ⌜r.2.2.2.2.1 = lanes (rowAt g t) 23⌝ ∗ ⌜r.2.2.2.2.2.1 = G1 (rowAt f t) (rowAt g t) 21⌝ ∗ ⌜r.2.2.2.2.2.2.1 = G2 (rowAt f t) (rowAt g t) 21⌝ ∗ ⌜r.2.2.2.2.2.2.2 = M2 (rowAt f t) (rowAt g t) 22⌝
      ∗ rows d L f g) := by
  subst h0 h1 h2 h3 h4
  simp only [k0_part7_eq_skeleton]; unfold k0_part7_skel rows
  iintro ⟨Hc, He⟩
  sl_exec
  sl_step
  simp only [readC f t 20 (k0_off22_eq t) rfl, readE g t 20 (k0_off22_eq t) rfl, readC f t 21 (k0_off23_eq t) rfl, readE g t 21 (k0_off23_eq t) rfl, readC f t 22 (k0_off24_eq t) rfl, readE g t 22 (k0_off24_eq t) rfl, readC f t 23 (k0_off25_eq t) rfl, readE g t 23 (k0_off25_eq t) rfl]
  repeat (isplitr [Hc He]; · ipureintro; rfl)
  isplitl [Hc] <;> iassumption

/-! ## The inner loop -/

/-- What a column's two rows' buffers determine: the pair after all twenty-four channels. -/
def colBest (f g : S24x1280.Idx → F .f32) (j : Fin 1280) : Best F :=
  best (fun k => f (ix2 (Fin.ofNat 24 k) j)) (fun k => g (ix2 (Fin.ofNat 24 k) j)) 22

def predRow (f g : S24x1280.Idx → F .f32) : S1280.Idx → F .f32 := fun i => (colBest f g (i 0)).pred
def probRow (f g : S24x1280.Idx → F .f32) : S2x1280.Idx → F .f32 :=
  fun i => if (i 0).val = 0 then (colBest f g (i 1)).p0 else (colBest f g (i 1)).p1

/-- After `n` trips: the first `16 n` columns hold their values. -/
def inv2 (n : ℕ) (_ : PUnit) : sProp 𝕄 :=
  iprop(rows d L f g
    ∗ (∃ o, ⌜∀ i : S1280.Idx, (i 0).val < 16 * n → o i = predRow f g i⌝ ∗ ((oM).view.loc (Th d L) ↦{fullShare} o))
    ∗ (∃ b, ⌜∀ i : S2x1280.Idx, (i 1).val < 16 * n → b i = probRow f g i⌝ ∗ ((bM).view.loc (Th d L) ↦{fullShare} b)))

/-- A lane's pair is its column's. -/
theorem bests_row (l : Fin 16) (j : Fin 1280) (h : j.val = 16 * t.val + l.val) :
    bests (rowAt f t) (rowAt g t) 22 (ix1 l) = colBest f g j := by
  have e (f : S24x1280.Idx → F .f32) : (fun k => lanes (rowAt f t) k (ix1 l)) = fun k => f (ix2 (Fin.ofNat 24 k) j) := by
    funext k
    refine (shapeCast_1a_a_apply (rowAt f t k) shapeCasts_S1x16_S16 l).trans ?_
    exact congrArg f (congrArg (ix2 (Fin.ofNat 24 k)) (Fin.ext h.symm))
  unfold bests colBest
  rw [e f, e g]

theorem pred_step (o : S1280.Idx → F .f32) (ho : ∀ i : S1280.Idx, (i 0).val < 16 * t.val → o i = predRow f g i)
    {inb} (i : S1280.Idx) (hi : (i 0).val < 16 * (t.val + 1)) :
    (oM).view.writes (Elt F) o [⟨Rect.unit (k0_off26 t) S16.size inb,
      shapeCast S16 (fun l => (bests (rowAt f t) (rowAt g t) 22 l).pred) shapeCasts_S16_S16⟩] i = predRow f g i := by
  by_cases h : (i 0).val < 16 * t.val
  · exact (View.read_writes_cons_unit_of_not_mem (Val := Elt F) (oM).view o inb _ [] i (k0_off26_eq t) 0 (.inl h)).trans (ho i h)
  · refine (View.read_writes_cons_unit_of_mem (Val := Elt F) (oM).view o inb _ [] i (ix1 (⟨(i 0).val - 16 * t.val, by omega⟩ : Fin 16)) (k0_off26_eq t) ?_).trans ?_
    · intro a
      match a with
      | 0 => show (i 0).val = 16 * t.val + ((i 0).val - 16 * t.val); omega
    · show (bests _ _ 22 (Shape.reshapeEquiv _ (ix1 _))).pred = _
      rw [Shape.reshapeEquiv_self, bests_row f g t _ (i 0) (by show (i 0).val = 16 * t.val + ((i 0).val - 16 * t.val); omega)]
      rfl

theorem prob_step (b : S2x1280.Idx → F .f32) (hb : ∀ i : S2x1280.Idx, (i 1).val < 16 * t.val → b i = probRow f g i)
    {inb inb'} (i : S2x1280.Idx) (hi : (i 1).val < 16 * (t.val + 1)) :
    (bM).view.writes (Elt F) b [⟨Rect.unit (k0_off28 t) S1x16.size inb,
      shapeCast S1x16 (fun l => (bests (rowAt f t) (rowAt g t) 22 l).p1) shapeCasts_S16_S1x16⟩,
      ⟨Rect.unit (k0_off27 t) S1x16.size inb',
      shapeCast S1x16 (fun l => (bests (rowAt f t) (rowAt g t) 22 l).p0) shapeCasts_S16_S1x16⟩] i = probRow f g i := by
  have h0 : (i 0).val < 2 := (i 0).isLt
  by_cases h : (i 1).val < 16 * t.val
  · exact (View.read_writes_cons_unit_of_not_mem (Val := Elt F) (bM).view b inb _ _ i (k0_off28_eq t) 1 (.inl h)).trans
      ((View.read_writes_cons_unit_of_not_mem (Val := Elt F) (bM).view b inb' _ [] i (k0_off27_eq t) 1 (.inl h)).trans (hb i h))
  · have hj : (i 1).val - 16 * t.val < 16 := by omega
    by_cases hr : (i 0).val = 0
    · refine (View.read_writes_cons_unit_of_not_mem (Val := Elt F) (bM).view b inb _ _ i (k0_off28_eq t) 0 (.inl (by show (i 0).val < 1; omega))).trans ?_
      refine (View.read_writes_cons_unit_of_mem (Val := Elt F) (bM).view b inb' _ [] i (ix2 (0 : Fin 1) (⟨(i 1).val - 16 * t.val, hj⟩ : Fin 16)) (k0_off27_eq t) ?_).trans ?_
      · intro a
        match a with
        | 0 => exact hr
        | 1 => show (i 1).val = 16 * t.val + ((i 1).val - 16 * t.val); omega
      · refine (shapeCast_a_1a_apply _ shapeCasts_S16_S1x16 0 _).trans ?_
        show (bests _ _ 22 (ix1 _)).p0 = _
        rw [bests_row f g t _ (i 1) (by show (i 1).val = 16 * t.val + ((i 1).val - 16 * t.val); omega)]
        exact (if_pos hr).symm
    · refine (View.read_writes_cons_unit_of_mem (Val := Elt F) (bM).view b inb _ _ i (ix2 (0 : Fin 1) (⟨(i 1).val - 16 * t.val, hj⟩ : Fin 16)) (k0_off28_eq t) ?_).trans ?_
      · intro a
        match a with
        | 0 => show (i 0).val = 1 + 0; omega
        | 1 => show (i 1).val = 16 * t.val + ((i 1).val - 16 * t.val); omega
      · refine (shapeCast_a_1a_apply _ shapeCasts_S16_S1x16 0 _).trans ?_
        show (bests _ _ 22 (ix1 _)).p1 = _
        rw [bests_row f g t _ (i 1) (by show (i 1).val = 16 * t.val + ((i 1).val - 16 * t.val); omega)]
        exact (if_neg hr).symm

theorem trip (v29 c0 c1 : BitVec 32) (t1 : Fin k0_t1_loop.trips) : inv2 d L f g t.val ⟨⟩ ⊢ wp frame (wpE (defs₀ (F := F)) 𝒱₀ (Th d L) none) Set.univ
    (k0_t2_body L xM (Memref.isWhole_whole _) yM (Memref.isWhole_whole _) pM (Memref.isWhole_whole _) qM (Memref.isWhole_whole _)
      cM (Memref.isWhole_whole _) eM (Memref.isWhole_whole _) oM (Memref.isWhole_whole _) bM (Memref.isWhole_whole _)
      cc0_scoped0 cc0_scoped1 cc0_scoped2 cc0_scoped3 v29 c0 c1 t1 t ⟨⟩)
    fun _ => inv2 d L f g (t.val + 1) ⟨⟩ := by
  unfold inv2 k0_t2_body
  have h1 := part1_run d L f g t
  have h2 := part2_run d L f g t
  have h3 := part3_run d L f g t
  have h4 := part4_run d L f g t
  have h5 := part5_run d L f g t
  have h6 := part6_run d L f g t
  have h7 := part7_run d L f g t
  iintro ⟨⟨Hc, He⟩, ⟨%o, %ho, Ho⟩, %b, %hb, Hb⟩
  sl_exec
  obtain rfl : v390 = D2 (rowAt f t) (rowAt g t) 21 := hk0_part7_0
  obtain rfl : v391 = M1 (rowAt f t) (rowAt g t) 21 := hk0_part7_1
  obtain rfl : v392 = D1 (rowAt f t) (rowAt g t) 21 := hk0_part7_2
  obtain rfl : v396 = lanes (rowAt f t) 23 := hk0_part7_3
  obtain rfl : v400 = lanes (rowAt g t) 23 := hk0_part7_4
  obtain rfl : v401 = G1 (rowAt f t) (rowAt g t) 21 := hk0_part7_5
  obtain rfl : v402 = G2 (rowAt f t) (rowAt g t) 21 := hk0_part7_6
  obtain rfl : v404 = M2 (rowAt f t) (rowAt g t) 22 := hk0_part7_7
  sl_step
  rw [pay172_eq, pay173_eq, pay174_eq]
  isplitl [Hk0_part7_8 Hk0_part7_9]; · isplitl [Hk0_part7_8] <;> iassumption
  isplitl [Ho]
  · iexists _; isplitr [Ho]
    rotate_left
    · iexact Ho
    · ipureintro; exact fun i hi => pred_step f g t o ho i hi
  · iexists _; isplitr [Hb]
    rotate_left
    · iexact Hb
    · ipureintro; exact fun i hi => prob_step f g t b hb i hi

end Parts

end Cert.KernelIdeal.Top2

end
-- ==== Proof.Ideal.Chunk.lean ====
/-
  One subcore's ten chunks of 1280 columns: fetch, compute, write out.
-/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.ShareLeaves
public import Idealize.ShloMosaic.Lib.ValueIdx
public import Idealize.ShloMosaic.Lib.ValueLayout
public import Idealize.ShloMosaic.Lib.WritesUnit
public import Idealize.ShloMosaic.Lib.Tactic
public import proofs.«01_k».proof.Proof.Ideal.Tile

@[expose] public section

set_option maxRecDepth 16384

noncomputable section

namespace Cert.KernelIdeal.Top2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-- A view's elements written whole with what another contents reads there: they hold that contents. -/
theorem writes_whole_eq {κ : Kind} {sp : Space} {s : Shape} {e : EltTy} {Val : EltTy → Type} (v : View sig κ sp s e)
    (f G : v.ty.Contents Val) (w : s.Idx → Val e) (h : ∀ j, w j = v.read Val G j) :
    ∀ i ∈ v.set, v.writes Val f [⟨Rect.whole s, w⟩] i = G i := by
  intro i hi
  obtain ⟨j, -, rfl⟩ := Finset.mem_map.mp hi
  have h1 := View.read_writes_cons_emb v f (Rect.whole s) w [] j
  rw [Rect.emb_whole_apply, h j, View.read_apply, View.read_apply] at h1
  have inj {α β : Type} (e : α = β) {a b : α} (h : cast e a = cast e b) : a = b := by subst e; exact h
  exact inj _ h1

section Views

variable (L : grid0.Coords) (k : Fin k0_t1_loop.trips)

/-- Chunk `k` of the subcore, in the costs, in the samples, and in the two results. -/
abbrev xC : Memref sig .scVector .hbm S24x1280 .f32 :=
  ((xM).slice (Rect.unit (s := S8x24x51200) (k0_off1 L k) S1x24x1280.size (k0_off1_inb L k)) (fun _ => rfl)).squeeze S24x1280 squeezes_S1x24x1280_S24x1280
abbrev yC : Memref sig .scVector .hbm S24x1280 .f32 :=
  ((yM).slice (Rect.unit (s := S8x24x51200) (k0_off1 L k) S1x24x1280.size (k0_off1_inb L k)) (fun _ => rfl)).squeeze S24x1280 squeezes_S1x24x1280_S24x1280
abbrev pC : Memref sig .scVector .hbm S1280 .f32 :=
  ((pM).slice (Rect.unit (s := S8x1x51200) (k0_off29 L k) S1x1x1280.size (k0_off29_inb L k)) (fun _ => rfl)).squeeze S1280 squeezes_S1x1x1280_S1280
abbrev qC : Memref sig .scVector .hbm S2x1280 .f32 :=
  ((qM).slice (Rect.unit (s := S8x2x51200) (k0_off30 L k) S1x2x1280.size (k0_off30_inb L k)) (fun _ => rfl)).squeeze S2x1280 squeezes_S1x2x1280_S2x1280

end Views

/-! ## Where a chunk lies -/

/-- The subcore's image of the batch, and the first column of its chunk `k`. -/
def bOf (L : grid0.Coords) : ℕ := (2 * (L 1).val + (L 0).val) / 4
def cOf (L : grid0.Coords) (k : Fin k0_t1_loop.trips) : ℕ := (2 * (L 1).val + (L 0).val) % 4 * 12800 + 1280 * k.val

def coordsV (c : Fin (grid0.bound 0)) (s : Fin (grid0.bound 1)) : grid0.Coords :=
  fun | 0 => c | 1 => s | ⟨_ + 2, h⟩ => absurd h (Nat.not_lt.2 (Nat.le_add_left _ _))

theorem coordsV_eta (L : grid0.Coords) : coordsV (L 0) (L 1) = L := by
  funext a
  match a with
  | 0 => rfl
  | 1 => rfl

theorem off1_aux : ∀ (c : Fin (grid0.bound 0)) (s : Fin (grid0.bound 1)) (k : Fin k0_t1_loop.trips),
    k0_off1 (coordsV c s) k = ![bOf (coordsV c s), 0, cOf (coordsV c s) k] := by decide +kernel
theorem off29_aux : ∀ (c : Fin (grid0.bound 0)) (s : Fin (grid0.bound 1)) (k : Fin k0_t1_loop.trips),
    k0_off29 (coordsV c s) k = ![bOf (coordsV c s), 0, cOf (coordsV c s) k] := by decide +kernel
theorem off30_aux : ∀ (c : Fin (grid0.bound 0)) (s : Fin (grid0.bound 1)) (k : Fin k0_t1_loop.trips),
    k0_off30 (coordsV c s) k = ![bOf (coordsV c s), 0, cOf (coordsV c s) k] := by decide +kernel

section Geometry

variable (L : grid0.Coords) (k : Fin k0_t1_loop.trips)

theorem off1_eq : k0_off1 L k = ![bOf L, 0, cOf L k] := coordsV_eta L ▸ off1_aux (L 0) (L 1) k
theorem off29_eq : k0_off29 L k = ![bOf L, 0, cOf L k] := coordsV_eta L ▸ off29_aux (L 0) (L 1) k
theorem off30_eq : k0_off30 L k = ![bOf L, 0, cOf L k] := coordsV_eta L ▸ off30_aux (L 0) (L 1) k

theorem bOf_lt : bOf L < 8 := by
  have h0 : (L 0).val < 2 := (L 0).isLt
  have h1 : (L 1).val < 16 := (L 1).isLt
  unfold bOf; omega
theorem cOf_lt (j : Fin 1280) : cOf L k + j.val < 51200 := by
  have hk : k.val < 10 := k.isLt
  have hj := j.isLt
  unfold cOf; omega

/-- The chunk's image and its column `j`. -/
def bF : Fin 8 := ⟨bOf L, bOf_lt L⟩
def cF (j : Fin 1280) : Fin 51200 := ⟨cOf L k + j.val, cOf_lt L k j⟩

theorem emb_xC (a : Fin 24) (j : Fin 1280) : (xC L k).view.emb (ix2 a j) = ix3 (bF L) a (cF L k j) := by
  show (Rect.unit (s := S8x24x51200) (k0_off1 L k) S1x24x1280.size (k0_off1_inb L k)).emb (Shape.reshapeEquiv _ (ix2 a j)) = _
  rw [reshapeEquiv_ix2_1ab]
  have h := off1_eq L k
  funext x
  refine Fin.ext ?_
  match x with
  | 0 => show k0_off1 L k 0 + 1 * 0 = bOf L; rw [h]; rfl
  | 1 => show k0_off1 L k 1 + 1 * a.val = a.val; rw [h]; show 0 + 1 * a.val = a.val; omega
  | 2 => show k0_off1 L k 2 + 1 * j.val = cOf L k + j.val; rw [h]; show cOf L k + 1 * j.val = _; omega

theorem emb_pC (j : Fin 1280) : (pC L k).view.emb (ix1 j) = ix3 (bF L) (0 : Fin 1) (cF L k j) := by
  show (Rect.unit (s := S8x1x51200) (k0_off29 L k) S1x1x1280.size (k0_off29_inb L k)).emb (Shape.reshapeEquiv _ (ix1 j)) = _
  rw [Shape.reshapeEquiv_eq_of_rowMajor (s := S1x1x1280) _ (x := ix1 j) (y := ix3 (0 : Fin 1) (0 : Fin 1) j) (by
    rw [Shape.rowMajor_val_three, Shape.rowMajor_val_one]
    show (0 * 1 + 0) * 1280 + j.val = j.val
    omega)]
  have h := off29_eq L k
  funext x
  refine Fin.ext ?_
  match x with
  | 0 => show k0_off29 L k 0 + 1 * 0 = bOf L; rw [h]; rfl
  | 1 => show k0_off29 L k 1 + 1 * 0 = 0; rw [h]; rfl
  | 2 => show k0_off29 L k 2 + 1 * j.val = cOf L k + j.val; rw [h]; show cOf L k + 1 * j.val = _; omega

theorem emb_qC (a : Fin 2) (j : Fin 1280) : (qC L k).view.emb (ix2 a j) = ix3 (bF L) a (cF L k j) := by
  show (Rect.unit (s := S8x2x51200) (k0_off30 L k) S1x2x1280.size (k0_off30_inb L k)).emb (Shape.reshapeEquiv _ (ix2 a j)) = _
  rw [reshapeEquiv_ix2_1ab]
  have h := off30_eq L k
  funext x
  refine Fin.ext ?_
  match x with
  | 0 => show k0_off30 L k 0 + 1 * 0 = bOf L; rw [h]; rfl
  | 1 => show k0_off30 L k 1 + 1 * a.val = a.val; rw [h]; show 0 + 1 * a.val = a.val; omega
  | 2 => show k0_off30 L k 2 + 1 * j.val = cOf L k + j.val; rw [h]; show cOf L k + 1 * j.val = _; omega

end Geometry

/-! ## The values -/

variable [FloatOps F]

section Values

variable (L : grid0.Coords) (k : Fin k0_t1_loop.trips) (X Y : S8x24x51200.Idx → F .f32)

/-- The pair at column `n` of image `b`. -/
def pixBest (b : Fin 8) (n : Fin 51200) : Best F :=
  best (fun k => X (ix3 b (Fin.ofNat 24 k) n)) (fun k => Y (ix3 b (Fin.ofNat 24 k) n)) 22

/-- What the two results hold. -/
def predG : S8x1x51200.Idx → F .f32 := fun i => (pixBest X Y (i 0) (i 2)).pred
def probG : S8x2x51200.Idx → F .f32 :=
  fun i => if (i 1).val = 0 then (pixBest X Y (i 0) (i 2)).p0 else (pixBest X Y (i 0) (i 2)).p1

/-- The chunk's costs and samples as fetched. -/
def xRow : S24x1280.Idx → F .f32 := (xC L k).view.read (Elt F) X
def yRow : S24x1280.Idx → F .f32 := (yC L k).view.read (Elt F) Y

theorem xRow_apply (a : Fin 24) (j : Fin 1280) : xRow L k X (ix2 a j) = X (ix3 (bF L) a (cF L k j)) :=
  congrArg X (emb_xC L k a j)
theorem yRow_apply (a : Fin 24) (j : Fin 1280) : yRow L k Y (ix2 a j) = Y (ix3 (bF L) a (cF L k j)) :=
  congrArg Y (emb_xC L k a j)

theorem colBest_row (j : Fin 1280) : colBest (xRow L k X) (yRow L k Y) j = pixBest X Y (bF L) (cF L k j) := by
  unfold colBest pixBest
  simp only [xRow_apply, yRow_apply]

theorem predRow_read (j : S1280.Idx) : predRow (xRow L k X) (yRow L k Y) j = (pC L k).view.read (Elt F) (predG X Y) j := by
  obtain ⟨j, rfl⟩ : ∃ j0, j = ix1 j0 := ⟨j 0, eq_ix1 j⟩
  have h : (pC L k).view.read (Elt F) (predG X Y) (ix1 j) = predG X Y ((pC L k).view.emb (ix1 j)) := rfl
  rw [h, emb_pC]
  exact congrArg Best.pred (colBest_row L k X Y j)

theorem probRow_read (j : S2x1280.Idx) : probRow (xRow L k X) (yRow L k Y) j = (qC L k).view.read (Elt F) (probG X Y) j := by
  obtain ⟨a, j, rfl⟩ : ∃ a j0, j = ix2 a j0 := ⟨j 0, j 1, eq_ix2 j⟩
  have h : (qC L k).view.read (Elt F) (probG X Y) (ix2 a j) = probG X Y ((qC L k).view.emb (ix2 a j)) := rfl
  rw [h, emb_qC]
  exact congrArg (fun b : Best F => if a.val = 0 then b.p0 else b.p1) (colBest_row L k X Y j)

end Values

section Chunk

variable (d : Dev nD) (L : grid0.Coords) (k : Fin k0_t1_loop.trips)
variable (X Y : S8x24x51200.Idx → F .f32)

/-- What the subcore holds throughout: its share of the two inputs, its four buffers, its four semaphores at rest. -/
def kept (q : PosShare TreeShare) (fc fe : S24x1280.Idx → F .f32) (fo : S1280.Idx → F .f32) (fb : S2x1280.Idx → F .f32) : sProp 𝕄 :=
  iprop(((xM).view.loc (Th d L) ↦{q} X) ∗ ((yM).view.loc (Th d L) ↦{q} Y)
    ∗ ((cM).view.loc (Th d L) ↦{fullShare} fc) ∗ ((eM).view.loc (Th d L) ↦{fullShare} fe)
    ∗ ((oM).view.loc (Th d L) ↦{fullShare} fo) ∗ ((bM).view.loc (Th d L) ↦{fullShare} fb)
    ∗ semVal (Th d L, SemLoc.dma cc0_scoped0.sem) 0 ∗ semVal (Th d L, SemLoc.dma cc0_scoped1.sem) 0
    ∗ semVal (Th d L, SemLoc.dma cc0_scoped2.sem) 0 ∗ semVal (Th d L, SemLoc.dma cc0_scoped3.sem) 0)

/-- A chunk of the predictions written with its columns' values holds the result there; and of the probabilities. -/
theorem pred_written (fp : S8x1x51200.Idx → F .f32) :
    ((pC L k).view.loc (Th d L) ↦[(pC L k).view.set]{fullShare} (pC L k).view.writes (Elt F) fp [⟨Rect.whole S1280, predRow (xRow L k X) (yRow L k Y)⟩] : sProp 𝕄)
      = ((pC L k).view.loc (Th d L) ↦[(pC L k).view.set]{fullShare} predG X Y) :=
  pointsTo_congr (writes_whole_eq (Val := Elt F) (pC L k).view fp (predG X Y) _ (predRow_read L k X Y))
theorem prob_written (fq : S8x2x51200.Idx → F .f32) :
    ((qC L k).view.loc (Th d L) ↦[(qC L k).view.set]{fullShare} (qC L k).view.writes (Elt F) fq [⟨Rect.whole S2x1280, probRow (xRow L k X) (yRow L k Y)⟩] : sProp 𝕄)
      = ((qC L k).view.loc (Th d L) ↦[(qC L k).view.set]{fullShare} probG X Y) :=
  pointsTo_congr (writes_whole_eq (Val := Elt F) (qC L k).view fq (probG X Y) _ (probRow_read L k X Y))

set_option maxHeartbeats 4000000 in
theorem chunk_run (q : PosShare TreeShare) (v29 : BitVec 32)
    (fc : S24x1280.Idx → F .f32) (fe : S24x1280.Idx → F .f32) (fo : S1280.Idx → F .f32) (fb : S2x1280.Idx → F .f32)
    (fp : S8x1x51200.Idx → F .f32) (fq : S8x2x51200.Idx → F .f32)
    (O : CellTallies nD τ sig (HIx 1)) (W : Waits sig (HIx 1)) :
    (iprop(Transfers.MayWaits (Th d L) (default : HIx 1) O ∗ kept d L X Y q fc fe fo fb
        ∗ ((pC L k).view.loc (Th d L) ↦[(pC L k).view.set]{fullShare} fp)
        ∗ ((qC L k).view.loc (Th d L) ↦[(qC L k).view.set]{fullShare} fq)
        ∗ owes (Th d L) O W) : sProp 𝕄)
      ⊢ wp frame (wpE (defs₀ (F := F)) 𝒱₀ (Th d L) none) Set.univ
        (k0_t1_body L xM (Memref.isWhole_whole _) yM (Memref.isWhole_whole _) pM (Memref.isWhole_whole _) qM (Memref.isWhole_whole _)
      cM (Memref.isWhole_whole _) eM (Memref.isWhole_whole _) oM (Memref.isWhole_whole _) bM (Memref.isWhole_whole _)
      cc0_scoped0 cc0_scoped1 cc0_scoped2 cc0_scoped3 v29 k ⟨⟩)
        fun _ => iprop(kept d L X Y q (xRow L k X) (yRow L k Y) (predRow (xRow L k X) (yRow L k Y)) (probRow (xRow L k X) (yRow L k Y))
        ∗ ((pC L k).view.loc (Th d L) ↦[(pC L k).view.set]{fullShare} predG X Y)
        ∗ ((qC L k).view.loc (Th d L) ↦[(qC L k).view.set]{fullShare} probG X Y)
        ∗ ∃ W', ⌜∀ p ∈ W', p ∈ W ∨ p.2 = none⌝ ∗ owes (Th d L) O W') := by
  unfold k0_t1_body kept
  rw [k0_part8_eq_skeleton]
  iintro ⟨#Hmw, ⟨Hx, Hy, Hc, He, Ho, Hb, H0, H1, H2, H3⟩, Hp, Hq, HO⟩
  sl_exec (disch := exact View.amount_pos _ _ (show 0 < S24x1280.numel by decide))
  ihave Hc' := (Entails.of_eq (show ((cM).view.loc (Th d L) ↦{fullShare} View.write (Elt F) (cM).view fc (chunk_run.sl.dma0 L k X) Finset.univ : sProp 𝕄)
      = ((cM).view.loc (Th d L) ↦{fullShare} xRow L k X) by rw [View.write_whole_univ]; rfl)) $$ Hc
  ihave He' := (Entails.of_eq (show ((eM).view.loc (Th d L) ↦{fullShare} View.write (Elt F) (eM).view fe (chunk_run.sl.dma0_1 L k Y) Finset.univ : sProp 𝕄)
      = ((eM).view.loc (Th d L) ↦{fullShare} yRow L k Y) by rw [View.write_whole_univ]; rfl)) $$ He
  sl_for (inv2 d L (xRow L k X) (yRow L k Y)) $$ [Hc' He' Ho Hb]
  case region => intro t _; exact trip d L _ _ t v29 _ _ k
  · unfold inv2 rows
    isplitl [Hc' He']; · isplitl [Hc'] <;> iassumption
    isplitl [Ho]
    · iexists fo; isplitr [Ho]
      · ipureintro; exact fun i hi => absurd hi (Nat.not_lt_zero _)
      · iexact Ho
    · iexists fb; isplitr [Hb]
      · ipureintro; exact fun i hi => absurd hi (Nat.not_lt_zero _)
      · iexact Hb
  iintro %_ HI
  unfold inv2 rows
  icases HI with ⟨⟨Hc, He⟩, ⟨%o, %ho, Ho⟩, %b, %hb, Hb⟩
  obtain rfl : o = predRow (xRow L k X) (yRow L k Y) := funext fun i => ho i (i 0).isLt
  obtain rfl : b = probRow (xRow L k X) (yRow L k Y) := funext fun i => hb i (i 1).isLt
  sl_exec (disch := exact View.amount_pos _ _ (show 0 < S1280.numel by decide))
  sl_step
  isplitl [Hx Hy Hc He Ho Hb H0 H1 H2 H3]
  · isplitl [Hx]; · iexact Hx
    isplitl [Hy]; · iexact Hy
    isplitl [Hc]; · iexact Hc
    isplitl [He]; · iexact He
    isplitl [Ho]; · iexact Ho
    isplitl [Hb]; · iexact Hb
    isplitl [H0]; · iexact H0
    isplitl [H1]; · iexact H1
    isplitl [H2]; · iexact H2
    iexact H3
  isplitl [Hp]
  · iapply (Entails.of_eq (pred_written d L k X Y fp)); iexact Hp
  isplitl [Hq]
  · iapply (Entails.of_eq (prob_written d L k X Y fq)); iexact Hq
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-- The chunk's piece of the two results. -/
def piece (fp : S8x1x51200.Idx → F .f32) (fq : S8x2x51200.Idx → F .f32) : sProp 𝕄 :=
  iprop(((pC L k).view.loc (Th d L) ↦[(pC L k).view.set]{fullShare} fp)
    ∗ ((qC L k).view.loc (Th d L) ↦[(qC L k).view.set]{fullShare} fq))

/-- Chunk `j` after `n` trips. -/
def pieceAt (fp : S8x1x51200.Idx → F .f32) (fq : S8x2x51200.Idx → F .f32) (n : ℕ) (j : Fin k0_t1_loop.trips) : sProp 𝕄 :=
  if j.val < n then piece d L j (predG X Y) (probG X Y) else piece d L j fp fq

/-- The outer loop's invariant: the first `n` chunks written. -/
def inv1 (q : PosShare TreeShare) (fp : S8x1x51200.Idx → F .f32) (fq : S8x2x51200.Idx → F .f32)
    (O : CellTallies nD τ sig (HIx 1)) (W : Waits sig (HIx 1)) (n : ℕ) (_ : PUnit) : sProp 𝕄 :=
  iprop(Transfers.MayWaits (Th d L) (default : HIx 1) O
    ∗ (∃ fc fe fo fb, kept d L X Y q fc fe fo fb)
    ∗ (bigSep Finset.univ fun j => pieceAt d L X Y fp fq n j)
    ∗ ∃ W', ⌜∀ p ∈ W', p ∈ W ∨ p.2 = none⌝ ∗ owes (Th d L) O W')

theorem chunk_step (q : PosShare TreeShare) (v29 : BitVec 32) (fp : S8x1x51200.Idx → F .f32) (fq : S8x2x51200.Idx → F .f32)
    (O : CellTallies nD τ sig (HIx 1)) (W : Waits sig (HIx 1)) :
    inv1 d L X Y q fp fq O W k.val ⟨⟩ ⊢ wp frame (wpE (defs₀ (F := F)) 𝒱₀ (Th d L) none) Set.univ
      (k0_t1_body L xM (Memref.isWhole_whole _) yM (Memref.isWhole_whole _) pM (Memref.isWhole_whole _) qM (Memref.isWhole_whole _)
      cM (Memref.isWhole_whole _) eM (Memref.isWhole_whole _) oM (Memref.isWhole_whole _) bM (Memref.isWhole_whole _)
      cc0_scoped0 cc0_scoped1 cc0_scoped2 cc0_scoped3 v29 k ⟨⟩)
      fun _ => inv1 d L X Y q fp fq O W (k.val + 1) ⟨⟩ := by
  have e0 : (bigSep Finset.univ fun j => pieceAt d L X Y fp fq k.val j)
      = iprop(piece d L k fp fq ∗ bigSep (Finset.univ.erase k) fun j => pieceAt d L X Y fp fq k.val j) := by
    rw [SparseCore.bigSep_erase' (Finset.mem_univ k), pieceAt, if_neg (Nat.lt_irrefl _)]
  have e1 : (bigSep Finset.univ fun j => pieceAt d L X Y fp fq (k.val + 1) j)
      = iprop(piece d L k (predG X Y) (probG X Y) ∗ bigSep (Finset.univ.erase k) fun j => pieceAt d L X Y fp fq k.val j) := by
    rw [SparseCore.bigSep_erase' (Finset.mem_univ k), pieceAt, if_pos (Nat.lt_succ_self _)]
    congr 1
    refine bigSep_congr fun j hj => ?_
    have hne : j.val ≠ k.val := fun h => (Finset.mem_erase.mp hj).1 (Fin.ext h)
    unfold pieceAt
    by_cases h : j.val < k.val
    · rw [if_pos h, if_pos (Nat.lt_succ_of_lt h)]
    · rw [if_neg h, if_neg (by omega)]
  unfold inv1
  rw [e0, e1]
  iintro ⟨#Hmw, ⟨%fc, %fe, %fo, %fb, Hh⟩, ⟨Hk, Hrest⟩, %W', %hW', HO⟩
  unfold piece
  icases Hk with ⟨Hp, Hq⟩
  iapply (wp_wand frame) $$ [Hh Hp Hq HO]
  · iapply (chunk_run d L k X Y q v29 fc fe fo fb fp fq O W')
    isplitr; · iexact Hmw
    isplitl [Hh]; · iexact Hh
    isplitl [Hp]; · iexact Hp
    isplitl [Hq]; · iexact Hq
    iexact HO
  iintro %_ ⟨Hh, Hp, Hq, %W'', %hW'', HO⟩
  isplitr; · iexact Hmw
  isplitl [Hh]; · iexists _, _, _, _; iexact Hh
  isplitl [Hp Hq Hrest]
  · isplitr [Hrest]
    · isplitl [Hp] <;> iassumption
    · iexact Hrest
  iexists W''; isplitr
  · ipureintro; exact fun p hp => (hW'' p hp).elim (hW' p) .inr
  · iexact HO

omit [FloatOps F] in
theorem ownSems0_V :
    (ownSems0 (Th d L) : sProp 𝕄)
      = iprop(semVal (Th d L, SemLoc.dma cc0_scoped0.sem) 0 ∗ semVal (Th d L, SemLoc.dma cc0_scoped1.sem) 0
          ∗ semVal (Th d L, SemLoc.dma cc0_scoped2.sem) 0 ∗ semVal (Th d L, SemLoc.dma cc0_scoped3.sem) 0
          ∗ bigSep (((((ownCells (Th d L)).erase (Th d L, .dma cc0_scoped0.sem)).erase (Th d L, .dma cc0_scoped1.sem)).erase
              (Th d L, .dma cc0_scoped2.sem)).erase (Th d L, .dma cc0_scoped3.sem)) fun g => semVal g 0) := by
  have hm (s : SemLoc sig) (h : s.isScoped .scVector = true) : (Th d L, s) ∈ ownCells (Th d L) := mem_ownCells.mpr ⟨rfl, h⟩
  have hn (s s' : SemLoc sig) (h : s ≠ s') : ((Th d L, s) : GSem nD τ sig) ≠ (Th d L, s') := fun e => h (Prod.mk.inj e).2
  unfold SparseCore.Cfg.ownSems0
  rw [SparseCore.bigSep_erase' (hm (.dma cc0_scoped0.sem) (by decide)),
    SparseCore.bigSep_erase' (Finset.mem_erase.mpr ⟨hn _ _ (by decide), hm (.dma cc0_scoped1.sem) (by decide)⟩),
    SparseCore.bigSep_erase' (Finset.mem_erase.mpr ⟨hn _ _ (by decide), Finset.mem_erase.mpr ⟨hn _ _ (by decide), hm (.dma cc0_scoped2.sem) (by decide)⟩⟩),
    SparseCore.bigSep_erase' (Finset.mem_erase.mpr ⟨hn _ _ (by decide), Finset.mem_erase.mpr ⟨hn _ _ (by decide),
      Finset.mem_erase.mpr ⟨hn _ _ (by decide), hm (.dma cc0_scoped3.sem) (by decide)⟩⟩⟩)]

/-- A scratch buffer of the subcore. -/
abbrev bRef (L : grid0.Coords) (b : Ref sig .scVector) : DevRef τ sig := (Proc.scVector (cV L) (jV L)).devRef b

omit [FloatOps F] in
/-- The four scratch buffers are among the subcore's own: they are them, at some contents, and the rest. -/
theorem ownBufs_V :
    (ownBufs (Th d L) : sProp 𝕄)
      = iprop((∃ f, (Th d L).loc cc0_scratch0 ↦{fullShare} f) ∗ (∃ f, (Th d L).loc cc0_scratch1 ↦{fullShare} f)
          ∗ (∃ f, (Th d L).loc cc0_scratch2 ↦{fullShare} f) ∗ (∃ f, (Th d L).loc cc0_scratch3 ↦{fullShare} f)
          ∗ bigSep (((((ownRefs (τ := τ) (.scVector (cV L) (jV L))).erase (bRef L cc0_scratch0)).erase (bRef L cc0_scratch1)).erase
              (bRef L cc0_scratch2)).erase (bRef L cc0_scratch3))
              fun b => iprop(∃ f, ((d, b) : Loc nD τ sig) ↦{fullShare} f)) := by
  have hn (b b' : Ref sig .scVector) (h : b ≠ b') : bRef L b ≠ bRef L b' := fun e => h (Proc.devRef_injective _ e)
  have h0 : bRef L cc0_scratch0 ∈ ownRefs (τ := τ) (.scVector (cV L) (jV L)) := SparseCore.Cfg.mem_ownRefs_of_owner rfl
  have h1 : bRef L cc0_scratch1 ∈ ownRefs (τ := τ) (.scVector (cV L) (jV L)) := SparseCore.Cfg.mem_ownRefs_of_owner rfl
  have h2 : bRef L cc0_scratch2 ∈ ownRefs (τ := τ) (.scVector (cV L) (jV L)) := SparseCore.Cfg.mem_ownRefs_of_owner rfl
  have h3 : bRef L cc0_scratch3 ∈ ownRefs (τ := τ) (.scVector (cV L) (jV L)) := SparseCore.Cfg.mem_ownRefs_of_owner rfl
  unfold SparseCore.Cfg.ownBufs
  refine (SparseCore.bigSep_erase' h0).trans ?_
  rw [SparseCore.bigSep_erase' (Finset.mem_erase.mpr ⟨hn _ _ (by decide), h1⟩),
    SparseCore.bigSep_erase' (Finset.mem_erase.mpr ⟨hn _ _ (by decide), Finset.mem_erase.mpr ⟨hn _ _ (by decide), h2⟩⟩),
    SparseCore.bigSep_erase' (Finset.mem_erase.mpr ⟨hn _ _ (by decide), Finset.mem_erase.mpr ⟨hn _ _ (by decide),
      Finset.mem_erase.mpr ⟨hn _ _ (by decide), h3⟩⟩⟩)]

/-- The subcore's part of the two results: its ten chunks. -/
def pieces (fp : S8x1x51200.Idx → F .f32) (fq : S8x2x51200.Idx → F .f32) : sProp 𝕄 :=
  bigSep Finset.univ fun k : Fin k0_t1_loop.trips => piece d L k fp fq

theorem pieces_start (fp : S8x1x51200.Idx → F .f32) (fq : S8x2x51200.Idx → F .f32) :
    pieces d L fp fq = bigSep Finset.univ fun j => pieceAt d L X Y fp fq 0 j := by
  refine bigSep_congr fun j _ => ?_
  unfold pieceAt; exact (if_neg (Nat.not_lt_zero _)).symm
theorem pieces_end (fp : S8x1x51200.Idx → F .f32) (fq : S8x2x51200.Idx → F .f32) :
    (bigSep Finset.univ fun j => pieceAt d L X Y fp fq k0_t1_loop.trips j) = pieces d L (predG X Y) (probG X Y) := by
  refine bigSep_congr fun j _ => ?_
  unfold pieceAt; exact if_pos j.isLt

set_option maxHeartbeats 4000000 in
/-- The task: from its share of the inputs and its chunks of the results at any contents, to its chunks written. -/
theorem tile_body (hF : (K (F := F)).Facts) (q : PosShare TreeShare) (fp : S8x1x51200.Idx → F .f32) (fq : S8x2x51200.Idx → F .f32)
    (O : CellTallies nD τ sig (HIx 1)) (W : Waits sig (HIx 1)) (hO : ∀ g, O g none = 0) :
    iprop(levAts (K (F := F)).L (K (F := F)).lev ∗ emp
        ∗ ((xLoc d ↦{q} X) ∗ (yLoc d ↦{q} Y) ∗ pieces d L fp fq)
        ∗ scopedBufs (Th d L) ∗ scopedSems0 (Th d L) ∗ owes (Th d L) O W)
      ⊢ wp frame (wpE (defs₀ (F := F)) 𝒱₀ (Th d L) none) Set.univ
          (cc0__sc_top2 L xM (Memref.isWhole_whole _) yM (Memref.isWhole_whole _) pM (Memref.isWhole_whole _) qM (Memref.isWhole_whole _)
            cM (Memref.isWhole_whole _) eM (Memref.isWhole_whole _) oM (Memref.isWhole_whole _) bM (Memref.isWhole_whole _)
            cc0_scoped0 cc0_scoped1 cc0_scoped2 cc0_scoped3)
          fun _ => iprop(((xLoc d ↦{q} X) ∗ (yLoc d ↦{q} Y) ∗ pieces d L (predG X Y) (probG X Y))
            ∗ scopedBufs (Th d L) ∗ scopedSems0 (Th d L)
            ∗ ∃ W', ⌜∀ p ∈ W', p ∈ W ∨ p.2 = none⌝ ∗ owes (Th d L) O W') := by
  rw [cc0__sc_top2_eq_skeleton]; unfold cc0__sc_top2_skel
  rw [(K (F := F)).scopedBufs_V hF d (cV L) (jV L), SparseCore.Cfg.scopedSems0_V (Val := Elt F) d (cV L) (jV L), ownSems0_V, ownBufs_V]
  iintro ⟨#Hlv, -, ⟨Hx, Hy, Hpq⟩, ⟨⟨%fc, Hc⟩, ⟨%fe, He⟩, ⟨%fo, Ho⟩, ⟨%fb, Hb⟩, Hbufs⟩, ⟨H0, H1, H2, H3, Hsems⟩, HO⟩
  ihave Hmw := (show levAts (K (F := F)).L (K (F := F)).lev ⊢ Transfers.MayWaits (Th d L) (default : HIx 1) O from
    (K (F := F)).mayWaits_none (thr := Th d L) hO) $$ Hlv
  sl_exec
  sl_for (inv1 d L X Y q fp fq O W) $$ [Hmw Hx Hy Hc He Ho Hb H0 H1 H2 H3 Hpq HO]
  case region => intro k _; exact chunk_step d L k X Y q _ fp fq O W
  · unfold inv1 kept
    isplitl [Hmw]; · iexact Hmw
    isplitl [Hx Hy Hc He Ho Hb H0 H1 H2 H3]
    · iexists fc, fe, fo, fb
      isplitl [Hx]; · iexact Hx
      isplitl [Hy]; · iexact Hy
      isplitl [Hc]; · iexact Hc
      isplitl [He]; · iexact He
      isplitl [Ho]; · iexact Ho
      isplitl [Hb]; · iexact Hb
      isplitl [H0]; · iexact H0
      isplitl [H1]; · iexact H1
      isplitl [H2]; · iexact H2
      iexact H3
    isplitl [Hpq]
    · iapply (Entails.of_eq (pieces_start d L X Y fp fq)); iexact Hpq
    iexists W; isplitr
    · ipureintro; exact fun p hp => .inl hp
    · iexact HO
  iintro %_ HI
  unfold inv1 kept
  icases HI with ⟨-, ⟨%fc, %fe, %fo, %fb, Hx, Hy, Hc, He, Ho, Hb, H0, H1, H2, H3⟩, Hpq, %W', %hW', HO⟩
  sl_exec
  sl_step
  isplitl [Hx Hy Hpq]
  · isplitl [Hx]; · iexact Hx
    isplitl [Hy]; · iexact Hy
    iapply (Entails.of_eq (pieces_end d L X Y fp fq)); iexact Hpq
  isplitl [Hc He Ho Hb Hbufs]
  · isplitl [Hc]; · iexists fc; iexact Hc
    isplitl [He]; · iexists fe; iexact He
    isplitl [Ho]; · iexists fo; iexact Ho
    isplitl [Hb]; · iexists fb; iexact Hb
    iexact Hbufs
  isplitl [H0 H1 H2 H3 Hsems]
  · isplitl [H0]; · iexact H0
    isplitl [H1]; · iexact H1
    isplitl [H2]; · iexact H2
    isplitl [H3]; · iexact H3
    iexact Hsems
  iexists W'; isplitr
  · ipureintro; exact hW'
  · iexact HO

end Chunk

end Cert.KernelIdeal.Top2
-- ==== Proof.Ideal.Launch.lean ====
/-
  The launch: the two results dealt over the 32 subcores' chunks, the inputs' shares, @main around the call.
-/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.ShareLeaves
public import Idealize.ShloMosaic.Lib.ValueIdx
public import Idealize.ShloMosaic.Lib.Tactic
public import proofs.«01_k».proof.Proof.Ideal.Chunk

@[expose] public section

set_option maxRecDepth 4096

noncomputable section

namespace Cert.KernelIdeal.Top2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.ShareLeaves (leaf pointsTo_leaves)
open Idealize.ShloMosaic.StableHlo (held wp_hlo_within)

variable {F : FTy → Type}

local notation "𝕄" => MT nD τ sig (HIx 1) (Elt F) ℕ UU ℕ

/-! ## The chunks tile the results -/

theorem mem_pC (L : grid0.Coords) (k : Fin k0_t1_loop.trips) (i : S8x1x51200.Idx) :
    i ∈ (pC L k).view.set ↔ (i 0).val = bOf L ∧ cOf L k ≤ (i 2).val ∧ (i 2).val < cOf L k + 1280 := by
  have e : (pC L k).view.set = (Rect.unit (s := S8x1x51200) (k0_off29 L k) S1x1x1280.size (k0_off29_inb L k)).set :=
    (View.set_reshape _ _).trans (View.set_slice_whole _ _)
  have h := off29_eq L k
  rw [e, Rect.mem_set_unit]
  have h1 : (i 1).val < 1 := (i 1).isLt
  constructor
  · intro H
    have a := H 0; have b := H 2
    rw [h] at a b
    change bOf L ≤ (i 0).val ∧ (i 0).val < bOf L + 1 at a
    change cOf L k ≤ (i 2).val ∧ (i 2).val < cOf L k + 1280 at b
    exact ⟨by omega, b.1, b.2⟩
  · rintro ⟨h0, h2, h2'⟩ a
    rw [h]
    match a with
    | 0 => show bOf L ≤ (i 0).val ∧ (i 0).val < bOf L + 1; omega
    | 1 => show 0 ≤ (i 1).val ∧ (i 1).val < 0 + 1; omega
    | 2 => show cOf L k ≤ (i 2).val ∧ (i 2).val < cOf L k + 1280; exact ⟨h2, h2'⟩

theorem mem_qC (L : grid0.Coords) (k : Fin k0_t1_loop.trips) (i : S8x2x51200.Idx) :
    i ∈ (qC L k).view.set ↔ (i 0).val = bOf L ∧ cOf L k ≤ (i 2).val ∧ (i 2).val < cOf L k + 1280 := by
  have e : (qC L k).view.set = (Rect.unit (s := S8x2x51200) (k0_off30 L k) S1x2x1280.size (k0_off30_inb L k)).set :=
    (View.set_reshape _ _).trans (View.set_slice_whole _ _)
  have h := off30_eq L k
  rw [e, Rect.mem_set_unit]
  have h1 : (i 1).val < 2 := (i 1).isLt
  constructor
  · intro H
    have a := H 0; have b := H 2
    rw [h] at a b
    change bOf L ≤ (i 0).val ∧ (i 0).val < bOf L + 1 at a
    change cOf L k ≤ (i 2).val ∧ (i 2).val < cOf L k + 1280 at b
    exact ⟨by omega, b.1, b.2⟩
  · rintro ⟨h0, h2, h2'⟩ a
    rw [h]
    match a with
    | 0 => show bOf L ≤ (i 0).val ∧ (i 0).val < bOf L + 1; omega
    | 1 => show 0 ≤ (i 1).val ∧ (i 1).val < 0 + 2; omega
    | 2 => show cOf L k ≤ (i 2).val ∧ (i 2).val < cOf L k + 1280; exact ⟨h2, h2'⟩

/-- A chunk's SparseCore, subcore and number. -/
abbrev Ix : Type := Fin 2 × Fin 16 × Fin 10
abbrev LL (c : Fin 2) (s : Fin 16) : grid0.Coords := coordsV (show Fin (grid0.bound 0) from c) (show Fin (grid0.bound 1) from s)
abbrev pSet (t : Ix) : Finset S8x1x51200.Idx := (pC (LL t.1 t.2.1) t.2.2).view.set
abbrev qSet (t : Ix) : Finset S8x2x51200.Idx := (qC (LL t.1 t.2.1) t.2.2).view.set

theorem bOf_LL (c : Fin 2) (s : Fin 16) : bOf (LL c s) = (2 * s.val + c.val) / 4 := rfl
theorem cOf_LL (c : Fin 2) (s : Fin 16) (k : Fin 10) : cOf (LL c s) k = (2 * s.val + c.val) % 4 * 12800 + 1280 * k.val := rfl

/-- Two chunks with a point in common are one. -/
theorem ix_eq {t t' : Ix} {b n : ℕ}
    (h : b = bOf (LL t.1 t.2.1) ∧ cOf (LL t.1 t.2.1) t.2.2 ≤ n ∧ n < cOf (LL t.1 t.2.1) t.2.2 + 1280)
    (h' : b = bOf (LL t'.1 t'.2.1) ∧ cOf (LL t'.1 t'.2.1) t'.2.2 ≤ n ∧ n < cOf (LL t'.1 t'.2.1) t'.2.2 + 1280) : t = t' := by
  obtain ⟨c, s, k⟩ := t
  obtain ⟨c', s', k'⟩ := t'
  simp only [bOf_LL, cOf_LL] at h h'
  have := c.isLt; have := c'.isLt; have := k.isLt; have := k'.isLt; have := s.isLt; have := s'.isLt
  have hs : s.val = s'.val := by omega
  have hc : c.val = c'.val := by omega
  have hk : k.val = k'.val := by omega
  rw [Fin.ext hs, Fin.ext hc, Fin.ext hk]

/-- Every column of every image lies in a chunk. -/
theorem ix_cover {b n : ℕ} (hb : b < 8) (hn : n < 51200) :
    ∃ t : Ix, b = bOf (LL t.1 t.2.1) ∧ cOf (LL t.1 t.2.1) t.2.2 ≤ n ∧ n < cOf (LL t.1 t.2.1) t.2.2 + 1280 := by
  refine ⟨(⟨n / 12800 % 2, by omega⟩, ⟨2 * b + n / 12800 / 2, by omega⟩, ⟨n % 12800 / 1280, by omega⟩), ?_⟩
  simp only [bOf_LL, cOf_LL]
  omega

theorem pSet_disjoint : ∀ t ∈ (Finset.univ : Finset Ix), ∀ t' ∈ (Finset.univ : Finset Ix), t ≠ t' → Disjoint (pSet t) (pSet t') :=
  fun _ _ _ _ h => Finset.disjoint_left.mpr fun i hi hi' => h (ix_eq ((mem_pC _ _ i).mp hi) ((mem_pC _ _ i).mp hi'))
theorem qSet_disjoint : ∀ t ∈ (Finset.univ : Finset Ix), ∀ t' ∈ (Finset.univ : Finset Ix), t ≠ t' → Disjoint (qSet t) (qSet t') :=
  fun _ _ _ _ h => Finset.disjoint_left.mpr fun i hi hi' => h (ix_eq ((mem_qC _ _ i).mp hi) ((mem_qC _ _ i).mp hi'))
theorem pSet_cover : (Finset.univ : Finset Ix).biUnion pSet = Finset.univ :=
  Finset.eq_univ_iff_forall.mpr fun i => by
    obtain ⟨t, ht⟩ := ix_cover (i 0).isLt (i 2).isLt
    exact Finset.mem_biUnion.mpr ⟨t, Finset.mem_univ t, (mem_pC _ _ i).mpr ht⟩
theorem qSet_cover : (Finset.univ : Finset Ix).biUnion qSet = Finset.univ :=
  Finset.eq_univ_iff_forall.mpr fun i => by
    obtain ⟨t, ht⟩ := ix_cover (i 0).isLt (i 2).isLt
    exact Finset.mem_biUnion.mpr ⟨t, Finset.mem_univ t, (mem_qC _ _ i).mpr ht⟩

/-- The two results whole are their chunks, per SparseCore, per subcore. -/
theorem results_deal (d : Dev nD) (fp : S8x1x51200.Idx → F .f32) (fq : S8x2x51200.Idx → F .f32) :
    (iprop((pLoc d ↦{fullShare} fp) ∗ qLoc d ↦{fullShare} fq) : sProp 𝕄)
      = bigSep Finset.univ fun c : Fin 2 => bigSep Finset.univ fun s : Fin 16 => pieces d (LL c s) fp fq := by
  have hp : (pLoc d ↦{fullShare} fp : sProp 𝕄) = bigSep Finset.univ fun t : Ix => pLoc d ↦[pSet t]{fullShare} fp := by
    rw [← pointsTo_biUnion Finset.univ (ℓ := pLoc d) pSet pSet_disjoint, pSet_cover]
  have hq : (qLoc d ↦{fullShare} fq : sProp 𝕄) = bigSep Finset.univ fun t : Ix => qLoc d ↦[qSet t]{fullShare} fq := by
    rw [← pointsTo_biUnion Finset.univ (ℓ := qLoc d) qSet qSet_disjoint, qSet_cover]
  rw [hp, hq, ← bigSep_sep', bigSep_univ_prod]
  refine bigSep_congr fun c _ => ?_
  rw [bigSep_univ_prod]
  rfl

/-- A subcore's share of an input. -/
def sh (c : Fin 2) (s : Fin 16) : PosShare TreeShare := leaf 4 (leaf 1 fullShare c) s

theorem input_deal {ℓ : Loc nD τ sig} (f : Buf (Elt F) ℓ) :
    (ℓ ↦{fullShare} f : sProp 𝕄)
      = bigSep Finset.univ fun c : Fin 2 => bigSep Finset.univ fun s : Fin 16 => ℓ ↦{sh c s} f :=
  (pointsTo_leaves Finset.univ f 1 fullShare).trans (bigSep_congr fun c _ => pointsTo_leaves Finset.univ f 4 (leaf 1 fullShare c))

variable [FloatOps F]

/-! ## What the handshakes carry -/

variable (X Y : Dev nD → S8x24x51200.Idx → F .f32) (fp : Dev nD → S8x1x51200.Idx → F .f32) (fq : Dev nD → S8x2x51200.Idx → F .f32)

/-- A subcore's part: its shares of the inputs, its chunks of the results. -/
def task (d : Dev nD) (c : Fin 2) (s : Fin 16) (p : S8x1x51200.Idx → F .f32) (q : S8x2x51200.Idx → F .f32) : sProp 𝕄 :=
  iprop((xLoc d ↦{sh c s} X d) ∗ (yLoc d ↦{sh c s} Y d) ∗ pieces d (LL c s) p q)

instance task_storable (d : Dev nD) (c : Fin 2) (s : Fin 16) (p : S8x1x51200.Idx → F .f32) (q : S8x2x51200.Idx → F .f32) :
    BI.Storable (upEmb : UEmb _ 𝕄) (task X Y d c s p q) := by
  unfold task pieces piece; infer_instance

/-- The four arrays are the subcores' parts. -/
theorem tasks_eq (d : Dev nD) (p : S8x1x51200.Idx → F .f32) (q : S8x2x51200.Idx → F .f32) :
    (bigSep Finset.univ fun c : Fin 2 => bigSep Finset.univ fun s : Fin 16 => task X Y d c s p q)
      = (iprop((xLoc d ↦{fullShare} X d) ∗ (yLoc d ↦{fullShare} Y d) ∗ (pLoc d ↦{fullShare} p) ∗ qLoc d ↦{fullShare} q) : sProp 𝕄) := by
  rw [results_deal, input_deal (ℓ := xLoc d) (X d), input_deal (ℓ := yLoc d) (Y d), ← bigSep_sep', ← bigSep_sep']
  refine bigSep_congr fun c _ => ?_
  rw [← bigSep_sep', ← bigSep_sep']
  rfl

/-- One SparseCore's subcores' parts. -/
def tasks (d : Dev nD) (c : Fin 2) (p : S8x1x51200.Idx → F .f32) (q : S8x2x51200.Idx → F .f32) : sProp 𝕄 :=
  bigSep Finset.univ fun s : Fin 16 => task X Y d c s p q

instance tasks_storable (d : Dev nD) (c : Fin 2) (p : S8x1x51200.Idx → F .f32) (q : S8x2x51200.Idx → F .f32) :
    BI.Storable (upEmb : UEmb _ 𝕄) (tasks X Y d c p q) := by
  unfold tasks; infer_instance

theorem tasks_def (d : Dev nD) (c : Fin 2) (p : S8x1x51200.Idx → F .f32) (q : S8x2x51200.Idx → F .f32) :
    tasks X Y d c p q = bigSep Finset.univ fun s : Fin 16 => task X Y d c s p q := rfl
theorem task_def (d : Dev nD) (c : Fin 2) (s : Fin 16) (p : S8x1x51200.Idx → F .f32) (q : S8x2x51200.Idx → F .f32) :
    task X Y d c s p q = iprop((xLoc d ↦{sh c s} X d) ∗ (yLoc d ↦{sh c s} Y d) ∗ pieces d (LL c s) p q) := rfl

attribute [irreducible] task tasks

/-- Each SparseCore takes its subcores' parts, and brings them back with the chunks written. -/
def P : (K (F := F)).Pay (nD := nD) (Val := Elt F) (Name := ℕ) (U := UU) where
  st := fun q d c => match q with
    | 0 => tasks X Y d (Fin.cast nCore_zero c) (fp d) (fq d)
  dn := fun q d c => match q with
    | 0 => tasks X Y d (Fin.cast nCore_zero c) (predG (X d) (Y d)) (probG (X d) (Y d))
  go := fun q d c i => match q with
    | 0 => task X Y d (Fin.cast nCore_zero c) (Fin.cast nSub_zero i) (fp d) (fq d)
  td := fun q d c i => match q with
    | 0 => task X Y d (Fin.cast nCore_zero c) (Fin.cast nSub_zero i) (predG (X d) (Y d)) (probG (X d) (Y d))
  x := fun _ _ => iprop(emp)

instance P_storable : (P X Y fp fq).IsStorable where
  st q d c := match q with
    | 0 => tasks_storable X Y d (Fin.cast nCore_zero c) (fp d) (fq d)
  dn q d c := match q with
    | 0 => tasks_storable X Y d (Fin.cast nCore_zero c) (predG (X d) (Y d)) (probG (X d) (Y d))
  go q d c i := match q with
    | 0 => task_storable X Y d (Fin.cast nCore_zero c) (Fin.cast nSub_zero i) (fp d) (fq d)
  td q d c i := match q with
    | 0 => task_storable X Y d (Fin.cast nCore_zero c) (Fin.cast nSub_zero i) (predG (X d) (Y d)) (probG (X d) (Y d))

theorem defs₀_vector (c : Fin τ.nSC) (s : Fin τ.nSub) :
    defs₀ (F := F) (.scVector c s) 0 ()
      = SparseCore.onTile hcore0 hsub0 (fun c s => cc0__sc_top2 (coordsV c s)
          xM (Memref.isWhole_whole _) yM (Memref.isWhole_whole _) pM (Memref.isWhole_whole _) qM (Memref.isWhole_whole _)
          cM (Memref.isWhole_whole _) eM (Memref.isWhole_whole _) oM (Memref.isWhole_whole _) bM (Memref.isWhole_whole _)
          cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P X Y fp fq) v₀ 0 := by
  intro d c i O W hO _ _
  simp only [show (P X Y fp fq).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  show iprop(_ ∗ _ ∗ task X Y d (Fin.cast nCore_zero c) (Fin.cast nSub_zero i) (fp d) (fq d) ∗ _ ∗ _ ∗ _) ⊢
    wp _ _ _ _ fun _ => iprop(task X Y d (Fin.cast nCore_zero c) (Fin.cast nSub_zero i) (predG (X d) (Y d)) (probG (X d) (Y d)) ∗ _ ∗ _ ∗ _)
  rw [task_def, task_def]
  exact (tile_body d (coordsV ⟨_, hci.1⟩ ⟨_, hci.2⟩) (X d) (Y d) hF (sh (Fin.cast nCore_zero c) (Fin.cast nSub_zero i)) (fp d) (fq d) O W hO).trans
    (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P X Y fp fq) 0 := by
  intro d c
  show tasks X Y d (Fin.cast nCore_zero c) (fp d) (fq d) ⊢ |={Set.univ}=> iprop(
      (bigSep Finset.univ fun i : Fin ((K (F := F)).nSub 0) => task X Y d (Fin.cast nCore_zero c) (Fin.cast nSub_zero i) (fp d) (fq d))
      ∗ ((bigSep Finset.univ fun i : Fin ((K (F := F)).nSub 0) =>
          task X Y d (Fin.cast nCore_zero c) (Fin.cast nSub_zero i) (predG (X d) (Y d)) (probG (X d) (Y d)))
          -∗ tasks X Y d (Fin.cast nCore_zero c) (predG (X d) (Y d)) (probG (X d) (Y d))))
  rw [tasks_def, tasks_def, bigSep_tasks (F := F) (fun i => task X Y d (Fin.cast nCore_zero c) i (fp d) (fq d)),
    bigSep_tasks (F := F) (fun i => task X Y d (Fin.cast nCore_zero c) i (predG (X d) (Y d)) (probG (X d) (Y d)))]
  iintro H; imodintro
  isplitl [H]; · iexact H
  iintro H; iexact H

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P X Y fp fq).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P X Y fp fq).x q thr) = bigSep Finset.univ fun _ => iprop(emp) from
    bigSep_congr fun _ _ => bigSep_univ_of_subsingleton (0 : Fin 1), bigSep_emp']
  iempintro

theorem st0_eq (d : Dev nD) : (bigSep Finset.univ fun c : Fin ((K (F := F)).nCore 0) => (P X Y fp fq).st 0 d c)
    = iprop((xLoc d ↦{fullShare} X d) ∗ (yLoc d ↦{fullShare} Y d) ∗ (pLoc d ↦{fullShare} fp d) ∗ qLoc d ↦{fullShare} fq d) := by
  show (bigSep Finset.univ fun c : Fin 2 => tasks X Y d c (fp d) (fq d)) = _
  simp only [tasks_def]
  exact tasks_eq X Y d (fp d) (fq d)
theorem dn0_eq (d : Dev nD) : (bigSep Finset.univ fun c : Fin ((K (F := F)).nCore 0) => (P X Y fp fq).dn 0 d c)
    = iprop((xLoc d ↦{fullShare} X d) ∗ (yLoc d ↦{fullShare} Y d) ∗ (pLoc d ↦{fullShare} predG (X d) (Y d)) ∗ qLoc d ↦{fullShare} probG (X d) (Y d)) := by
  show (bigSep Finset.univ fun c : Fin 2 => tasks X Y d c (predG (X d) (Y d)) (probG (X d) (Y d))) = _
  simp only [tasks_def]
  exact tasks_eq X Y d (predG (X d) (Y d)) (probG (X d) (Y d))

end Cert.KernelIdeal.Top2

end
-- ==== Proof.Ideal.Run.lean ====
/-
  The whole program: @main around the call, and what a run leaves in memory.
-/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.ShareLeaves
public import Idealize.ShloMosaic.Lib.ValueIdx
public import Idealize.ShloMosaic.Lib.Tactic
public import proofs.«01_k».proof.Proof.Ideal.Launch

@[expose] public section

set_option maxRecDepth 4096

noncomputable section

namespace Cert.KernelIdeal.Top2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.ShareLeaves (leaf pointsTo_leaves)
open Idealize.ShloMosaic.StableHlo (held wp_hlo_within)

variable {F : FTy → Type}

local notation "𝕄" => MT nD τ sig (HIx 1) (Elt F) ℕ UU ℕ

variable [FloatOps F]
variable (m : (ℓ : Loc nD τ sig) → Buf (Elt F) ℓ) (ρ : Dev nD → PrngReg)

abbrev aLoc (d : Dev nD) : Loc nD τ sig := (SparseCore.T d).loc main_arg0
abbrev bLoc (d : Dev nD) : Loc nD τ sig := (SparseCore.T d).loc main_arg1
abbrev rLoc (d : Dev nD) : Loc nD τ sig := (SparseCore.T d).loc main_v3
abbrev sLoc (d : Dev nD) : Loc nD τ sig := (SparseCore.T d).loc main_v4

/-- The costs and the samples with the image's rows laid end to end, and the two results as images. -/
def Xv (A : S8x24x160x320.Idx → F .f32) : S8x24x51200.Idx → F .f32 := shapeCast S8x24x51200 A shapeCasts_S8x24x160x320_S8x24x51200
def predOf (A B : S8x24x160x320.Idx → F .f32) : S8x160x320.Idx → F .f32 :=
  shapeCast S8x160x320 (predG (Xv A) (Xv B)) shapeCasts_S8x1x51200_S8x160x320
def probOf (A B : S8x24x160x320.Idx → F .f32) : S8x2x160x320.Idx → F .f32 :=
  shapeCast S8x2x160x320 (probG (Xv A) (Xv B)) shapeCasts_S8x2x51200_S8x2x160x320

abbrev Xd (d : Dev nD) : S8x24x51200.Idx → F .f32 := Xv (m (aLoc d))
abbrev Yd (d : Dev nD) : S8x24x51200.Idx → F .f32 := Xv (m (bLoc d))
abbrev PP : (K (F := F)).Pay (nD := nD) (Val := Elt F) (Name := ℕ) (U := UU) :=
  P (Xd m) (Yd m) (fun d => m (pLoc d)) (fun d => m (qLoc d))

/-! ## @main on the TensorCore -/

abbrev a' : DevRef τ sig := Proc.devRef .tc (main_arg0 : Ref sig .tc)
abbrev b' : DevRef τ sig := Proc.devRef .tc (main_arg1 : Ref sig .tc)
abbrev x' : DevRef τ sig := Proc.devRef .tc (main_v0 : Ref sig .tc)
abbrev y' : DevRef τ sig := Proc.devRef .tc (main_v1 : Ref sig .tc)
abbrev p' : DevRef τ sig := Proc.devRef .tc (main_v2_0 : Ref sig .tc)
abbrev q' : DevRef τ sig := Proc.devRef .tc (main_v2_1 : Ref sig .tc)
abbrev r' : DevRef τ sig := Proc.devRef .tc (main_v3 : Ref sig .tc)
abbrev s' : DevRef τ sig := Proc.devRef .tc (main_v4 : Ref sig .tc)
abbrev opX : HloOp τ sig (Elt F) := StableHlo.reshape main_arg0 main_v0 (rfl : (.f32 : EltTy) = .f32) shapeCasts_S8x24x160x320_S8x24x51200
abbrev opY : HloOp τ sig (Elt F) := StableHlo.reshape main_arg1 main_v1 (rfl : (.f32 : EltTy) = .f32) shapeCasts_S8x24x160x320_S8x24x51200
abbrev opR : HloOp τ sig (Elt F) := StableHlo.reshape main_v2_0 main_v3 (rfl : (.f32 : EltTy) = .f32) shapeCasts_S8x1x51200_S8x160x320
abbrev opS : HloOp τ sig (Elt F) := StableHlo.reshape main_v2_1 main_v4 (rfl : (.f32 : EltTy) = .f32) shapeCasts_S8x2x51200_S8x2x160x320

/-- The TensorCore's arrays. -/
abbrev S8 : Finset (DevRef τ sig) := {a', b', x', y', p', q', r', s'}

/-- The eight arrays, at eight contents. -/
def arrays (d : Dev nD) (a b : S8x24x160x320.Idx → F .f32) (x y : S8x24x51200.Idx → F .f32) (p : S8x1x51200.Idx → F .f32)
    (q : S8x2x51200.Idx → F .f32) (r : S8x160x320.Idx → F .f32) (s : S8x2x160x320.Idx → F .f32) : sProp 𝕄 :=
  iprop((aLoc d ↦{fullShare} a) ∗ (bLoc d ↦{fullShare} b) ∗ (xLoc d ↦{fullShare} x) ∗ (yLoc d ↦{fullShare} y)
    ∗ (pLoc d ↦{fullShare} p) ∗ (qLoc d ↦{fullShare} q) ∗ (rLoc d ↦{fullShare} r) ∗ sLoc d ↦{fullShare} s)

omit [FloatOps F] in
theorem held_S8 (d : Dev nD) (W : Valuation τ sig (Elt F)) :
    (held (T d) S8 W : sProp 𝕄) = arrays d (W a') (W b') (W x') (W y') (W p') (W q') (W r') (W s') := by
  unfold held S8 arrays
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch contents; and with the two reshapes done. -/
def V0 (d : Dev nD) : Valuation τ sig (Elt F) := fun b => m (d, b)
def V2 (d : Dev nD) : Valuation τ sig (Elt F) := (opY (F := F)).result ((opX (F := F)).result (V0 m d))
/-- After the call. -/
def V3 (d : Dev nD) : Valuation τ sig (Elt F) :=
  Function.update (Function.update (V2 m d) p' (predG (Xd m d) (Yd m d))) q' (probG (Xd m d) (Yd m d))
def V5 (d : Dev nD) : Valuation τ sig (Elt F) := (opS (F := F)).result ((opR (F := F)).result (V3 m d))

omit [FloatOps F] in
theorem unscoped_held (d : Dev nD) : (unscopedBufs d (fun b => m ((SparseCore.T d).loc b)) : sProp 𝕄) = held (T d) S8 (V0 m d) := by
  rw [held_S8]
  unfold unscopedBufs arrays
  rw [show (Finset.univ.filter fun b : Ref sig .tc => ¬ b.isScoped)
      = {main_arg0, main_arg1, main_v0, main_v1, main_v2_0, main_v2_1, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

omit [FloatOps F] in
theorem V2_ne (d : Dev nD) {c : DevRef τ sig} (hx : c ∉ ({x'} : Finset (DevRef τ sig))) (hy : c ∉ ({y'} : Finset (DevRef τ sig))) :
    V2 m d c = m (d, c) := by
  unfold V2
  rw [(opY (F := F)).result_of_not_mem _ hy, (opX (F := F)).result_of_not_mem _ hx]
  rfl
omit [FloatOps F] in
theorem V2_x (d : Dev nD) : V2 m d x' = Xd m d := by
  unfold V2
  rw [(opY (F := F)).result_of_not_mem _ (show x' ∉ ({y'} : Finset (DevRef τ sig)) by decide)]
  exact (StableHlo.reshape_result main_arg0 main_v0 _ _ _ _ _).trans rfl
omit [FloatOps F] in
theorem V2_y (d : Dev nD) : V2 m d y' = Yd m d := by
  unfold V2
  refine (StableHlo.reshape_result main_arg1 main_v1 _ _ _ _ _).trans ?_
  rw [show (opX (F := F)).result (V0 m d) b' = m (bLoc d) from
    (opX (F := F)).result_of_not_mem _ (show b' ∉ ({x'} : Finset (DevRef τ sig)) by decide)]
  rfl

omit [FloatOps F] in
/-- The arrays before the call. -/
theorem held_V2 (d : Dev nD) :
    (held (T d) S8 ((opY (F := F)).result ((opX (F := F)).result (V0 m d))) : sProp 𝕄)
      = arrays d (m (aLoc d)) (m (bLoc d)) (Xd m d) (Yd m d) (m (pLoc d)) (m (qLoc d)) (m (rLoc d)) (m (sLoc d)) := by
  show held (T d) S8 (V2 m d) = _
  rw [held_S8, V2_x, V2_y, V2_ne m d (c := a') (by decide) (by decide), V2_ne m d (c := b') (by decide) (by decide),
    V2_ne m d (c := p') (by decide) (by decide), V2_ne m d (c := q') (by decide) (by decide),
    V2_ne m d (c := r') (by decide) (by decide), V2_ne m d (c := s') (by decide) (by decide)]

theorem V3_ne (d : Dev nD) {c : DevRef τ sig} (hp : c ≠ p') (hq : c ≠ q') : V3 m d c = V2 m d c := by
  unfold V3
  rw [Function.update_of_ne hq, Function.update_of_ne hp]
theorem V3_p (d : Dev nD) : V3 m d p' = predG (Xd m d) (Yd m d) := by
  unfold V3
  rw [Function.update_of_ne (show p' ≠ q' by decide), Function.update_self]
theorem V3_q (d : Dev nD) : V3 m d q' = probG (Xd m d) (Yd m d) := by
  unfold V3
  rw [Function.update_self]

/-- The arrays after the call. -/
theorem held_V3 (d : Dev nD) :
    (held (T d) S8 (V3 m d) : sProp 𝕄)
      = arrays d (m (aLoc d)) (m (bLoc d)) (Xd m d) (Yd m d) (predG (Xd m d) (Yd m d)) (probG (Xd m d) (Yd m d)) (m (rLoc d)) (m (sLoc d)) := by
  rw [held_S8, V3_p, V3_q, V3_ne m d (c := a') (by decide) (by decide), V3_ne m d (c := b') (by decide) (by decide),
    V3_ne m d (c := x') (by decide) (by decide), V3_ne m d (c := y') (by decide) (by decide),
    V3_ne m d (c := r') (by decide) (by decide), V3_ne m d (c := s') (by decide) (by decide), V2_x, V2_y,
    V2_ne m d (c := a') (by decide) (by decide), V2_ne m d (c := b') (by decide) (by decide),
    V2_ne m d (c := r') (by decide) (by decide), V2_ne m d (c := s') (by decide) (by decide)]

theorem V5_r (d : Dev nD) : V5 m d r' = predOf (m (aLoc d)) (m (bLoc d)) := by
  unfold V5
  rw [(opS (F := F)).result_of_not_mem _ (show r' ∉ ({s'} : Finset (DevRef τ sig)) by decide)]
  refine (StableHlo.reshape_result main_v2_0 main_v3 _ _ _ _ _).trans ?_
  rw [show V3 m d p' = predG (Xd m d) (Yd m d) from V3_p m d]
  rfl
theorem V5_s (d : Dev nD) : V5 m d s' = probOf (m (aLoc d)) (m (bLoc d)) := by
  unfold V5
  refine (StableHlo.reshape_result main_v2_1 main_v4 _ _ _ _ _).trans ?_
  rw [show (opR (F := F)).result (V3 m d) q' = probG (Xd m d) (Yd m d) from
    ((opR (F := F)).result_of_not_mem _ (show q' ∉ ({r'} : Finset (DevRef τ sig)) by decide)).trans (V3_q m d)]
  rfl
theorem V5_in (d : Dev nD) {c : DevRef τ sig} (hr : c ∉ ({r'} : Finset (DevRef τ sig))) (hs : c ∉ ({s'} : Finset (DevRef τ sig))) :
    V5 m d c = V3 m d c := by
  unfold V5
  rw [(opS (F := F)).result_of_not_mem _ hs, (opR (F := F)).result_of_not_mem _ hr]

/-- What @main leaves the claims: the arguments as launched, the two results. -/
def FIN (d : Dev nD) : sProp 𝕄 :=
  iprop((aLoc d ↦{fullShare} m (aLoc d)) ∗ (bLoc d ↦{fullShare} m (bLoc d))
    ∗ (rLoc d ↦{fullShare} predOf (m (aLoc d)) (m (bLoc d))) ∗ sLoc d ↦{fullShare} probOf (m (aLoc d)) (m (bLoc d)))

theorem held_V5 (d : Dev nD) :
    (held (T d) S8 ((opS (F := F)).result ((opR (F := F)).result (V3 m d))) : sProp 𝕄) ⊢ FIN m d := by
  show held (T d) S8 (V5 m d) ⊢ _
  rw [held_S8, V5_r, V5_s, V5_in m d (c := a') (by decide) (by decide), V5_in m d (c := b') (by decide) (by decide),
    V3_ne m d (c := a') (by decide) (by decide), V3_ne m d (c := b') (by decide) (by decide),
    V2_ne m d (c := a') (by decide) (by decide), V2_ne m d (c := b') (by decide) (by decide)]
  unfold arrays FIN
  iintro ⟨Ha, Hb, -, -, -, -, Hr, Hs⟩
  isplitl [Ha]; · iexact Ha
  isplitl [Hb]; · iexact Hb
  isplitl [Hr]; · iexact Hr
  iexact Hs

omit [FloatOps F] in
theorem hX : (opX (F := F)).bufs ⊆ S8 := show ({a', x'} : Finset (DevRef τ sig)) ⊆ S8 by decide
omit [FloatOps F] in
theorem hY : (opY (F := F)).bufs ⊆ S8 := show ({b', y'} : Finset (DevRef τ sig)) ⊆ S8 by decide
omit [FloatOps F] in
theorem hR : (opR (F := F)).bufs ⊆ S8 := show ({p', r'} : Finset (DevRef τ sig)) ⊆ S8 by decide
omit [FloatOps F] in
theorem hS : (opS (F := F)).bufs ⊆ S8 := show ({q', s'} : Finset (DevRef τ sig)) ⊆ S8 by decide

/-- @main: the two reshapes, the call from the reshaped inputs and the two results' arrays, the two reshapes. -/
theorem hmain (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opX) (S := S8) hX (V := V0 m d)) $$ [Hb Hheld]
  · isplitl [Hb] <;> iassumption
  iintro ⟨Hb, Hheld⟩
  rw [wp_ret]; imodintro
  iapply (wp_hlo_within 𝒱 (SparseCore.T d) none Set.univ (op := opY) (S := S8) hY (V := (opX (F := F)).result (V0 m d))) $$ [Hb Hheld]
  · isplitl [Hb] <;> iassumption
  iintro ⟨Hb, Hheld⟩
  rw [wp_ret]; imodintro
  ihave Hh := (Entails.of_eq (held_V2 m d)) $$ Hheld
  unfold arrays
  icases Hh with ⟨Ha, Hbb, Hx, Hy, Hp, Hq, Hr, Hs⟩
  iapply ((K (F := F)).wp_run (D (F := F)) 𝒱 (EH := EH) (P := PP m) κ d 0) $$ [Hst Hx Hy Hp Hq Ha Hbb Hr Hs Hb Hts]
  isplitr; · iexact Hctx
  isplitl [Hst]; · iexact Hst
  isplitl [Hx Hy Hp Hq]
  · rw [st0_eq]
    isplitl [Hx]; · iexact Hx
    isplitl [Hy]; · iexact Hy
    isplitl [Hp]; · iexact Hp
    iexact Hq
  iintro ⟨Hst, Hdn⟩
  ihave Hdn' := (Entails.of_eq (dn0_eq (Xd m) (Yd m) (fun d => m (pLoc d)) (fun d => m (qLoc d)) d)) $$ Hdn
  icases Hdn' with ⟨Hx, Hy, Hp, Hq⟩
  iapply (wp_hlo_within 𝒱 (SparseCore.T d) none Set.univ (op := opR) (S := S8) hR (V := V3 m d)) $$ [Hb Ha Hbb Hx Hy Hp Hq Hr Hs]
  · isplitl [Hb]; · iexact Hb
    rw [held_V3]; unfold arrays
    isplitl [Ha]; · iexact Ha
    isplitl [Hbb]; · iexact Hbb
    isplitl [Hx]; · iexact Hx
    isplitl [Hy]; · iexact Hy
    isplitl [Hp]; · iexact Hp
    isplitl [Hq]; · iexact Hq
    isplitl [Hr]; · iexact Hr
    iexact Hs
  iintro ⟨Hb, Hheld⟩
  rw [wp_ret]; imodintro
  iapply (wp_hlo_within 𝒱 (SparseCore.T d) none Set.univ (op := opS) (S := S8) hS (V := (opR (F := F)).result (V3 m d))) $$ [Hb Hheld]
  · isplitl [Hb] <;> iassumption
  iintro ⟨Hb, Hheld⟩
  ihave Hf := (held_V5 m d) $$ Hheld
  rw [wp_ret]; imodintro; imodintro
  isplitl [Hst]; · iexact Hst
  isplitl [Hf]; · iexact Hf
  isplitl [Hb] <;> iassumption

/-! ## The program's run -/

/-- The arguments as launched, and the two results. -/
def fin (d : Dev nD) (M : (ℓ : Loc nD τ sig) → Buf (Elt F) ℓ) : Prop :=
  M (aLoc d) = m (aLoc d) ∧ M (bLoc d) = m (bLoc d) ∧ M (rLoc d) = predOf (m (aLoc d)) (m (bLoc d)) ∧ M (sLoc d) = probOf (m (aLoc d)) (m (bLoc d))

omit [FloatOps F] in
/-- A whole array held agrees with the memory. -/
theorem agree {ℓ : Loc nD τ sig} (f : Buf (Elt F) ℓ) (s : Phys nD τ sig (Elt F)) :
    iprop((ℓ ↦{fullShare} f) ∗ SI s) ⊢ (iprop(⌜s.mem.mem ℓ = f⌝ ∗ SI s) : sProp 𝕄) := by
  iintro ⟨Hi, HSI⟩
  ihave H := (persistent_entails_right (SI_pointsTo_agree (st := s) (ℓ := ℓ) (I := Finset.univ) (q := fullShare) (f := f))) $$ [HSI Hi]
  · isplitl [HSI] <;> iassumption
  icases H with ⟨%h, HSI, -⟩
  isplitr
  · ipureintro; exact funext fun i => h i (Finset.mem_univ i)
  · iexact HSI

theorem hfin (d : Dev nD) (s : Phys nD τ sig (Elt F)) : iprop(FIN m d ∗ SI s) ⊢ (⌜fin m d s.mem.mem⌝ : sProp 𝕄) := by
  unfold FIN
  iintro ⟨⟨Ha, Hb, Hr, Hs⟩, HSI⟩
  ihave H := (agree (ℓ := aLoc d) (m (aLoc d)) s) $$ [HSI Ha]
  · isplitl [Ha] <;> iassumption
  icases H with ⟨%ha, HSI⟩
  ihave H := (agree (ℓ := bLoc d) (m (bLoc d)) s) $$ [HSI Hb]
  · isplitl [Hb] <;> iassumption
  icases H with ⟨%hb, HSI⟩
  ihave H := (agree (ℓ := rLoc d) (predOf (m (aLoc d)) (m (bLoc d))) s) $$ [HSI Hr]
  · isplitl [Hr] <;> iassumption
  icases H with ⟨%hr, HSI⟩
  ihave H := (agree (ℓ := sLoc d) (probOf (m (aLoc d)) (m (bLoc d))) s) $$ [HSI Hs]
  · isplitl [Hs] <;> iassumption
  icases H with ⟨%hs, -⟩
  ipureintro; exact ⟨ha, hb, hr, hs⟩

def QC : PUnit × MemSt nD τ sig (Elt F) → Prop := fun r => (∀ c : Dev nD, fin m c r.2.mem) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (Xd m) (Yd m) _ _ facts)
    (fun q _ => match q with | 0 => SparseCore.Cfg.VecSplit.of_plain (vecSplit (Xd m) (Yd m) _ _))
    m ρ main (fun _ => iprop(emp)) (FIN m) (u₀ (F := F)) (sep_elim_left.trans (hu₀ (Xd m) (Yd m) _ _)) (hmain m ρ)
    (fun d s => fin m d s.mem.mem) (hfin m) (QC m) (fun _ h hz => ⟨h, hz⟩)

end Cert.KernelIdeal.Top2

end
-- ==== Proof.Ideal.Order.lean ====
/-
  The two channels the kernel's scan ends with, by position: the greatest cost and the greatest of the rest, of equal
  costs the earlier channel. A stable sort by descending cost puts the same two channels first.
-/
module

public import proofs.«01_k».proof.Proof.Ideal.Best
public import Idealize.ShloMosaic.PureOps.Ideal.Laws
public import Idealize.ShloMosaic.Lib.SortPrefix

@[expose] public section

noncomputable section

namespace Cert.KernelIdeal.Top2

open Idealize.ShloMosaic

/-! ## The scan's two channels -/

/-- Channel `i` is ahead of channel `j`: a greater cost, or the same cost and an earlier place. -/
def Ahead (C : ℕ → EReal) (i j : ℕ) : Prop := C j < C i ∨ (C i = C j ∧ i < j)

theorem Ahead.le {C : ℕ → EReal} {i j : ℕ} (h : Ahead C i j) : C j ≤ C i := h.elim le_of_lt fun e => e.1.ge

/-- Channels `i` and `j` are the first and the second of the channels below `n`. -/
structure FirstTwo (C : ℕ → EReal) (n i j : ℕ) : Prop where
  lt_i : i < n
  lt_j : j < n
  ahead : Ahead C i j
  rest : ∀ k < n, k ≠ i → k ≠ j → Ahead C j k

/-- A pair holds the costs and the samples of channels `i` and `j`. -/
structure At (C E : ℕ → EReal) (b : Best Ideal) (i j : ℕ) : Prop where
  m1 : b.m1 = C i
  d1 : b.d1 = E i
  m2 : b.m2 = C j
  d2 : b.d2 = E j

theorem select_ogt (x y : EReal) (u v : Ideal .f32) :
    Scalar.select (FloatOps.cmpf (F := Ideal) (φ := .f32) .ogt x y) u v = if y < x then u else v := by
  rw [Ideal.cmpf_def]
  by_cases h : y < x <;> simp [Scalar.select, Ideal.cmp, h]

theorem best_start (C E : ℕ → EReal) : ∃ i j, FirstTwo C 2 i j ∧ At C E (best (F := Ideal) C E 0) i j := by
  by_cases h : C 0 < C 1
  · exact ⟨1, 0, ⟨by omega, by omega, Or.inl h, fun k hk h1 h0 => by omega⟩,
      ⟨(select_ogt _ _ _ _).trans (if_pos h), (select_ogt _ _ _ _).trans (if_pos h),
        (select_ogt _ _ _ _).trans (if_pos h), (select_ogt _ _ _ _).trans (if_pos h)⟩⟩
  · refine ⟨0, 1, ⟨by omega, by omega, ?_, fun k hk h1 h0 => by omega⟩,
      ⟨(select_ogt _ _ _ _).trans (if_neg h), (select_ogt _ _ _ _).trans (if_neg h),
        (select_ogt _ _ _ _).trans (if_neg h), (select_ogt _ _ _ _).trans (if_neg h)⟩⟩
    rcases (not_lt.mp h).lt_or_eq with l | e
    · exact Or.inl l
    · exact Or.inr ⟨e.symm, by omega⟩

theorem best_next (C E : ℕ → EReal) {n i j : ℕ} {b : Best Ideal} (h : FirstTwo C n i j) (hb : At C E b i j) :
    ∃ i' j', FirstTwo C (n + 1) i' j' ∧ At C E (b.next (C n) (E n)) i' j' := by
  have hi := h.lt_i
  have hj := h.lt_j
  by_cases h1 : C i < C n
  · refine ⟨n, i, ⟨by omega, by omega, Or.inl h1, fun k hk hn hki => ?_⟩, ⟨?_, ?_, ?_, ?_⟩⟩
    · by_cases hkj : k = j
      · exact hkj ▸ h.ahead
      · have hk' := h.rest k (by omega) hki hkj
        rcases h.ahead with l | ⟨e, _⟩
        · exact Or.inl (hk'.le.trans_lt l)
        · rcases hk' with l | ⟨e', l'⟩
          · exact Or.inl (e ▸ l)
          · exact Or.inr ⟨e.trans e', by rcases h.ahead with l | ⟨_, l⟩ <;> [exact absurd l (by simp [e]); omega]⟩
    all_goals simp only [Best.next, select_ogt, hb.m1, hb.d1, hb.m2, hb.d2, if_pos h1]
  · by_cases h2 : C j < C n
    · refine ⟨i, n, ⟨by omega, by omega, ?_, fun k hk hki hn => ?_⟩, ⟨?_, ?_, ?_, ?_⟩⟩
      · rcases (not_lt.mp h1).lt_or_eq with l | e
        · exact Or.inl l
        · exact Or.inr ⟨e.symm, hi⟩
      · by_cases hkj : k = j
        · exact Or.inl (hkj ▸ h2)
        · exact Or.inl ((h.rest k (by omega) hki hkj).le.trans_lt h2)
      all_goals simp only [Best.next, select_ogt, hb.m1, hb.d1, hb.m2, hb.d2, if_neg h1, if_pos h2]
    · refine ⟨i, j, ⟨by omega, by omega, h.ahead, fun k hk hki hkj => ?_⟩, ⟨?_, ?_, ?_, ?_⟩⟩
      · by_cases hkn : k = n
        · subst hkn
          rcases (not_lt.mp h2).lt_or_eq with l | e
          · exact Or.inl l
          · exact Or.inr ⟨e.symm, hj⟩
        · exact h.rest k (by omega) hki hkj
      all_goals simp only [Best.next, select_ogt, hb.m1, hb.d1, hb.m2, hb.d2, if_neg h1, if_neg h2]

/-- The scan holds the first two channels of those it has seen. -/
theorem best_spec (C E : ℕ → EReal) (n : ℕ) :
    ∃ i j, FirstTwo C (n + 2) i j ∧ At C E (best (F := Ideal) C E n) i j := by
  induction n with
  | zero => exact best_start C E
  | succ n ih =>
    obtain ⟨i, j, h, hb⟩ := ih
    exact best_next C E h hb

/-! ## The sort's first two positions -/

/-- Two relations that agree on each later element against each earlier one sort a list alike: a stable insertion sort
    asks nothing else. -/
theorem stableSort_eq_of_later {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- A stable sort by a key settles ties by position. -/
theorem sortedFrom_position {n : ℕ} (lt : EReal → EReal → Bool) (key : Fin n → EReal) :
    sortedFrom (fun k k' => lt (key k) (key k'))
      = sortedFrom fun k k' => lt (key k) (key k') || (decide (key k = key k') && decide (k < k')) := by
  have e : sortPositions n (fun k k' => lt (key k) (key k'))
      = sortPositions n fun k k' => lt (key k) (key k') || (decide (key k = key k') && decide (k < k')) := by
    refine stableSort_eq_of_later _ _ _ ((List.pairwise_lt_finRange n).imp fun {a b} hab => ?_)
    simp [not_lt.mpr hab.le]
  funext k
  unfold sortedFrom
  rw [List.get_of_eq e]
  rfl

/-- The first two positions of a stable sort of 24 channels by descending cost. -/
theorem sorted_firstTwo {C : ℕ → EReal} {i j : ℕ} (h : FirstTwo C 24 i j) (s : Fin 2) :
    sortedFrom (fun k k' : Fin 24 => decide (C k'.val < C k.val)) (s.castLE (by decide))
      = if s = 0 then ⟨i, h.lt_i⟩ else ⟨j, h.lt_j⟩ := by
  have hB := StrictTotalBefore.of_key_then_position (n := 24) (κ := EReal) (fun a b => decide (b < a)) (fun k => C k.val)
    (by simp) (by simp only [decide_eq_true_eq]; exact fun a b c h1 h2 => h2.trans h1)
    (by simp only [decide_eq_true_eq]; exact fun a b => (lt_trichotomy b a).imp_right fun h => h.imp_left Eq.symm)
  have notB : ∀ a b : Fin 24, Ahead C a.val b.val →
      (decide (C a.val < C b.val) || (decide (C b.val = C a.val) && decide (b < a))) = false := by
    intro a b hab
    rcases hab with l | ⟨e, l⟩
    · simp [not_lt.mpr l.le, l.ne]
    · simp [e, not_lt.mpr (show a ≤ b from l.le)]
  have hij : i ≠ j := fun e => by
    rcases h.ahead with l | ⟨_, l⟩
    · exact absurd (e ▸ l) (lt_irrefl _)
    · omega
  rw [sortedFrom_position (fun a b => decide (b < a)) (fun k : Fin 24 => C k.val)]
  refine hB.sortedFrom_eq_of_prefix (by decide) (fun s : Fin 2 => if s = 0 then ⟨i, h.lt_i⟩ else ⟨j, h.lt_j⟩) ?_ ?_ ?_ s
  · intro s t e
    fin_cases s <;> fin_cases t <;> simp at e ⊢ <;> omega
  · intro s t hst
    fin_cases s <;> fin_cases t <;> simp at hst
    exact notB ⟨i, h.lt_i⟩ ⟨j, h.lt_j⟩ h.ahead
  · intro s p hp
    have hpi : p.val ≠ i := fun e => hp 0 (Fin.ext e.symm)
    have hpj : p.val ≠ j := fun e => hp 1 (Fin.ext e.symm)
    have hjp := h.rest p.val p.isLt hpi hpj
    fin_cases s
    · refine notB ⟨i, h.lt_i⟩ p ?_
      rcases h.ahead with l | ⟨e, l⟩
      · exact Or.inl (hjp.le.trans_lt l)
      · rcases hjp with l' | ⟨e', l'⟩
        · exact Or.inl (e ▸ l')
        · exact Or.inr ⟨e.trans e', l.trans l'⟩
    · exact notB ⟨j, h.lt_j⟩ p hjp

end Cert.KernelIdeal.Top2

end
-- ==== Proof.Ideal.Reference.lean ====
/-
  The reference's two results read at a pixel, at ideal values: its argsort of the negated costs is a stable sort by
  descending cost, its two gathers read the costs and the samples of the first two channels of that sort, and its
  softmax and weighted sum run over those two.
-/
module

public import proofs.«01_k».proof.Proof.Gen.ReferenceIdeal
public import proofs.«01_k».proof.Proof.Gen.ReferenceIdeal.Run
public import Idealize.ShloMosaic.PureOps.Ideal.Laws
public import Idealize.ShloMosaic.Lib.Pointwise
public import Idealize.ShloMosaic.Lib.IdealHost
public import Idealize.ShloMosaic.Lib.ReduceAll
public import Idealize.ShloMosaic.Lib.SortFacts
public import Idealize.ShloMosaic.Lib.ValueIdx

@[expose] public section

noncomputable section

namespace Cert.ReferenceIdeal.Top2

open Cert.ReferenceIdeal Cert.ReferenceIdeal.Gen Idealize.ShloMosaic Idealize.ShloMosaic.ValueIdx

/-! ## The reference's steps -/

/-- The first two channels of the argsort. -/
def firstTwo (A : FVec Ideal S8x24x160x320 .f32) : IVec S8x2x160x320 32 :=
  extractStridedSlice S8x2x160x320 ![0, 0, 0, 0]
    (Host.sort2 S8x24x160x320 1 (comparator_f32_i32_d1 (F := Ideal)) (Host.negf A) (iotaInDim S8x24x160x320 32 1)).2
    slices_S8x24x160x320_S8x2x160x320_0_0_0_0

/-- Channel numbers with a negative one counted from the end. -/
def wrapped (I : IVec S8x2x160x320 32) : IVec S8x2x160x320x1 32 :=
  shapeCast _ (select (cmpi .slt I (broadcastInDim S8x2x160x320 ![] bcast_S_S8x2x160x320 (constantI S_ 32 0#32)))
    (addi I (broadcastInDim S8x2x160x320 ![] bcast_S_S8x2x160x320 (constantI S_ 32 24#32))) I)
    shapeCasts_S8x2x160x320_S8x2x160x320x1

/-- Whether each channel number is one of the 24. -/
def inRange (J : IVec S8x2x160x320x1 32) : IVec S8x2x160x320 1 :=
  Host.reduce IntOp.andi
    (andi (cmpi .sge J (broadcastInDim S8x2x160x320x1 ![] bcast_S_S8x2x160x320x1 (constantI S_ 32 0#32)))
      (cmpi .sle J (broadcastInDim S8x2x160x320x1 ![0, 1, 2, 3, 4] bcast_S1x1x1x1x1_S8x2x160x320x1_0_1_2_3_4
        (broadcastInDim S1x1x1x1x1 ![4] bcast_S1_S1x1x1x1x1_4 (constantI S1 32 23#32)))))
    (constantI S_ 1 1#1) reducesTo_S8x2x160x320x1_S8x2x160x320_d4 h_S_

/-- An array read along its channels at the numbers `I`. -/
def along (A : FVec Ideal S8x24x160x320 .f32) (I : IVec S8x2x160x320 32) : FVec Ideal S8x2x160x320 .f32 :=
  select (inRange (wrapped I))
    (Host.gather gather_S8x24x160x320_S8x2x160x320x1_S8x2x160x320_n_1_023_023_1_4_1111 A (wrapped I))
    (broadcastInDim S8x2x160x320 ![] bcast_S_S8x2x160x320 (constant S_ .f32 0x7FC00000#32))

/-- A plane repeated for both channels. -/
def both (P : FVec Ideal S8x160x320 .f32) : FVec Ideal S8x2x160x320 .f32 :=
  broadcastInDim S8x2x160x320 ![0, 1, 2, 3] bcast_S8x1x160x320_S8x2x160x320_0_1_2_3
    (broadcastInDim S8x1x160x320 ![0, 2, 3] bcast_S8x160x320_S8x1x160x320_0_2_3 P)

/-- The greater of the two costs. -/
def peak (V : FVec Ideal S8x2x160x320 .f32) : FVec Ideal S8x160x320 .f32 :=
  maximumf (broadcastInDim S8x160x320 ![] bcast_S_S8x160x320 (constant S_ .f32 0xFF800000#32))
    (Host.reduce FloatOps.maximumf V (constant S_ .f32 0xFF800000#32) reducesTo_S8x2x160x320_S8x160x320_d1 h_S_)

/-- The exponentials of the two costs less the greater. -/
def exps (V : FVec Ideal S8x2x160x320 .f32) : FVec Ideal S8x2x160x320 .f32 := Host.exp (subf V (both (peak V)))

/-- The sum over the two channels. -/
def total (V : FVec Ideal S8x2x160x320 .f32) : FVec Ideal S8x160x320 .f32 :=
  Host.reduceAdd V (constant S_ .f32 0x00000000#32) reducesTo_S8x2x160x320_S8x160x320_d1 h_S_

def softmax (V : FVec Ideal S8x2x160x320 .f32) : FVec Ideal S8x2x160x320 .f32 := Host.divf (exps V) (both (total (exps V)))

/-- The reference's two results of a cost array and a sample array. -/
def probR (A : FVec Ideal S8x24x160x320 .f32) : FVec Ideal S8x2x160x320 .f32 := softmax (along A (firstTwo A))
def predR (A B : FVec Ideal S8x24x160x320 .f32) : FVec Ideal S8x160x320 .f32 := total (mulf (along B (firstTwo A)) (probR A))

section Named
variable (m : (ℓ : Loc nD τ sig) → Buf (Elt Ideal) ℓ) (c : Dev nD)

theorem prob_named : Value.res_main_v14 m c = probR (m ((c.tc : Thread nD τ).loc main_arg0)) := rfl
theorem pred_named : Value.res_main_v17 m c
    = predR (m ((c.tc : Thread nD τ).loc main_arg0)) (m ((c.tc : Thread nD τ).loc main_arg1)) := rfl

end Named

end Cert.ReferenceIdeal.Top2

end
-- ==== Proof.Ideal.Pixel.lean ====
/-
  The reference's steps read at one pixel: the argsort's first two channels, the two gathers, the softmax over two costs
  and the weighted sum.
-/
module

public import proofs.«01_k».proof.Proof.Ideal.Reference

@[expose] public section

noncomputable section

namespace Cert.ReferenceIdeal.Top2

open Cert.ReferenceIdeal Cert.ReferenceIdeal.Gen Idealize.ShloMosaic
open Idealize.ShloMosaic.ValueIdx hiding ix1 ix2 ix3 ix4 ix5

/-! ## The argsort -/

/-- The sort's comparison of two rows, at ideal values: the lesser key first, whatever the channel numbers. -/
theorem comparator_eq (l r : Ideal .f32 × BitVec 32) :
    comparator_f32_i32_d1 (F := Ideal) l r = BitVec.ofBool (decide ((l.1 : EReal) < r.1)) := by
  have clean : ∀ x : EReal, Scalar.select (FloatOps.cmpf (F := Ideal) (φ := .f32) .une x x)
      (FloatOps.ofBits (F := Ideal) .f32 0x7FC00000#32)
      (Scalar.select (FloatOps.cmpf (F := Ideal) (φ := .f32) .oeq x (FloatOps.ofBits .f32 0x00000000#32))
        (FloatOps.ofBits .f32 0x00000000#32) x) = x := by
    intro x
    simp only [Ideal.cmpf_def, Ideal.ofBits_def, Ideal.ofBits_zero_f32, Ideal.cmp]
    by_cases h : x = 0 <;> simp [Scalar.select, h]
  show FloatOps.cmpfTotal (F := Ideal) (φ := .f32) .lt _ _ = _
  rw [clean l.1, clean r.1]
  rfl

/-- The comparison of two channels of a pixel in the argsort. -/
def before (A : FVec Ideal S8x24x160x320 .f32) (b : Fin 8) (h : Fin 160) (w : Fin 320) (p q : Fin 24) : Bool :=
  decide ((A (ix4 b q h w) : EReal) < A (ix4 b p h w))

/-- What the argsort leaves at an index: the channel it puts there. -/
theorem argsort_apply (x : S8x24x160x320.Idx → Ideal .f32) (j : S8x24x160x320.Idx) :
    (Host.sort2 S8x24x160x320 1 (comparator_f32_i32_d1 (F := Ideal)) x (iotaInDim S8x24x160x320 32 1)).2 j
      = BitVec.ofNat 32 (sortedFrom (fun p q : Fin 24 => comparator_f32_i32_d1 (F := Ideal)
          (x (j.along 1 p), iotaInDim S8x24x160x320 32 1 (j.along 1 p))
          (x (j.along 1 q), iotaInDim S8x24x160x320 32 1 (j.along 1 q)) == 1#1) (j 1)).val := by
  rw [Host.sort2_eq_sortBy]
  dsimp only
  unfold Host.sortBy
  rw [dif_pos (show 1 < S8x24x160x320.rank by decide)]
  have own : ∀ p : Fin 24, iotaInDim S8x24x160x320 32 1 (j.along 1 p) = BitVec.ofNat 32 p.val := fun p => rfl
  exact own _

theorem firstTwo_apply (A : FVec Ideal S8x24x160x320 .f32) (b : Fin 8) (s : Fin 2) (h : Fin 160) (w : Fin 320) :
    firstTwo A (ix4 b s h w) = BitVec.ofNat 32 (sortedFrom (before A b h w) (s.castLE (by decide))).val := by
  unfold firstTwo
  refine (extractStridedSlice_apply _ _ _ _ (ix4 b (s.castLE (by decide : 2 ≤ 24)) h w) (fun a => by
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm)).trans ?_
  rw [argsort_apply]
  generalize hj : (ix4 b (s.castLE (by decide : 2 ≤ 24)) h w : S8x24x160x320.Idx) = j
  have al : ∀ p : Fin 24, j.along 1 p = ix4 b p h w := by
    intro p
    subst hj
    funext a
    match a with
    | ⟨0, _⟩ => rfl
    | ⟨1, _⟩ => rfl
    | ⟨2, _⟩ => rfl
    | ⟨3, _⟩ => rfl
  have key : (fun p q : Fin 24 => comparator_f32_i32_d1 (F := Ideal)
      (Host.negf A (j.along 1 p), iotaInDim S8x24x160x320 32 1 (j.along 1 p))
      (Host.negf A (j.along 1 q), iotaInDim S8x24x160x320 32 1 (j.along 1 q)) == 1#1) = before A b h w := by
    funext p q
    rw [comparator_eq, al p, al q]
    show (BitVec.ofBool (decide (-(A (ix4 b p h w) : EReal) < -(A (ix4 b q h w) : EReal))) == 1#1) = _
    simp only [before, EReal.neg_lt_neg_iff]
    by_cases e : (A (ix4 b q h w) : EReal) < A (ix4 b p h w) <;> simp [e]
  have place : (j 1 : Fin 24) = s.castLE (by decide) := by
    subst hj
    rfl
  rw [key]
  exact congrArg (fun k : Fin 24 => BitVec.ofNat 32 (sortedFrom (before A b h w) k).val) place

/-! ## The gathers -/

/-- A channel number below 24 is not counted from the end. -/
theorem wrapped_apply (I : IVec S8x2x160x320 32) (b : Fin 8) (s : Fin 2) (h : Fin 160) (w : Fin 320) (z : Fin 1) (p : Fin 24)
    (hI : I (ix4 b s h w) = BitVec.ofNat 32 p.val) : wrapped I (ix5 b s h w z) = BitVec.ofNat 32 p.val := by
  unfold wrapped
  refine (shapeCast_apply _ _ (ix5 b s h w z) (ix4 b s h w) ?_).trans ?_
  · rw [Shape.rowMajor_val_four, Shape.rowMajor_val_five]
    show ((b.val * 2 + s.val) * 160 + h.val) * 320 + w.val = (((b.val * 2 + s.val) * 160 + h.val) * 320 + w.val) * 1 + z.val
    omega
  · show Scalar.select (IntOp.cmpi .slt (I (ix4 b s h w)) 0#32) (IntOp.addi (I (ix4 b s h w)) 24#32) (I (ix4 b s h w)) = _
    rw [hI]
    clear hI
    decide +revert

theorem inRange_apply (J : IVec S8x2x160x320x1 32) (b : Fin 8) (s : Fin 2) (h : Fin 160) (w : Fin 320) (p : Fin 24)
    (hJ : ∀ z : Fin 1, J (ix5 b s h w z) = BitVec.ofNat 32 p.val) : inRange J (ix4 b s h w) = 1#1 := by
  unfold inRange
  rw [Host.reduce_eq_foldl]
  refine IntOp.foldl_andi_one _ _ _ rfl fun i hi => ?_
  have hd := of_decide_eq_true (List.mem_filter.mp hi).2
  obtain ⟨z, hz⟩ := (Shape.ReducesTo.fiber_r5_a4 reducesTo_S8x2x160x320x1_S8x2x160x320_d4 (ix4 b s h w) i).mp hd
  have hz' : ix5 b s h w z = i := hz
  rw [← hz']
  show IntOp.andi (IntOp.cmpi .sge (J (ix5 b s h w z)) 0#32) (IntOp.cmpi .sle (J (ix5 b s h w z)) 23#32) = 1#1
  rw [hJ z]
  clear hJ
  decide +revert

abbrev dims := gather_S8x24x160x320_S8x2x160x320x1_S8x2x160x320_n_1_023_023_1_4_1111

theorem gather_apply (A : FVec Ideal S8x24x160x320 .f32) (J : IVec S8x2x160x320x1 32) (b : Fin 8) (s : Fin 2) (h : Fin 160)
    (w : Fin 320) (p : Fin 24) (hJ : ∀ z : Fin 1, J (ix5 b s h w z) = BitVec.ofNat 32 p.val) :
    Host.gather dims A J (ix4 b s h w) = A (ix4 b p h w) := by
  unfold Host.gather
  congr 1
  funext a
  refine Fin.ext ?_
  show dims.start (ix4 b s h w) J a + dims.batchCoord (ix4 b s h w) a + dims.offCoord (ix4 b s h w) a = _
  have off : dims.offCoord (ix4 b s h w) a = 0 := GatherDims.offCoord_eq_zero _ _ _ (fun hk => by
    have := (GatherDims.mem_sKept _ _).mp hk
    match a with
    | ⟨0, _⟩ => exact this.2 (by decide +revert)
    | ⟨1, _⟩ => exact this.1 (by decide +revert)
    | ⟨2, _⟩ => exact this.2 (by decide +revert)
    | ⟨3, _⟩ => exact this.2 (by decide +revert))
  rw [off, Nat.add_zero]
  have batch : ∀ a : Fin 4, a ≠ 1 → dims.start (ix4 b s h w) J a = 0 := fun a ha =>
    GatherDims.start_batching _ _ _ _ (by revert a; decide)
  match a with
  | ⟨0, _⟩ => rw [batch _ (fun e => absurd (congrArg Fin.val e : (0 : ℕ) = 1) (by decide)), Nat.zero_add]; rfl
  | ⟨2, _⟩ => rw [batch _ (fun e => absurd (congrArg Fin.val e : (2 : ℕ) = 1) (by decide)), Nat.zero_add]; rfl
  | ⟨3, _⟩ => rw [batch _ (fun e => absurd (congrArg Fin.val e : (3 : ℕ) = 1) (by decide)), Nat.zero_add]; rfl
  | ⟨1, _⟩ =>
    rw [show dims.batchCoord (ix4 b s h w) ⟨1, by decide⟩ = 0 from GatherDims.batchCoord_eq_zero _ _ _ (by decide), Nat.add_zero]
    unfold GatherDims.start
    rw [dif_pos (show (⟨1, by decide⟩ : Fin 4) ∈ dims.startIndexMap by decide)]
    have hs : dims.siIdx (ix4 b s h w) ⟨List.idxOf (⟨1, by decide⟩ : Fin 4) dims.startIndexMap,
        List.idxOf_lt_length_iff.2 (by decide)⟩ = ix5 b s h w (0 : Fin 1) := by
      funext c; refine Fin.ext ?_
      match c with
      | ⟨0, _⟩ => rfl
      | ⟨1, _⟩ => rfl
      | ⟨2, _⟩ => rfl
      | ⟨3, _⟩ => rfl
      | ⟨4, _⟩ => rfl
    rw [hs, hJ 0]
    show min (BitVec.ofNat 32 p.val).toInt.toNat 23 = p.val
    clear hJ hs batch off
    decide +revert

theorem along_apply (A : FVec Ideal S8x24x160x320 .f32) (I : IVec S8x2x160x320 32) (b : Fin 8) (s : Fin 2) (h : Fin 160)
    (w : Fin 320) (p : Fin 24) (hI : I (ix4 b s h w) = BitVec.ofNat 32 p.val) :
    along A I (ix4 b s h w) = A (ix4 b p h w) := by
  have hJ : ∀ z : Fin 1, wrapped I (ix5 b s h w z) = BitVec.ofNat 32 p.val := fun z => wrapped_apply I b s h w z p hI
  unfold along
  rw [select_apply, inRange_apply _ b s h w p hJ, gather_apply A _ b s h w p hJ, select_one]

/-! ## The softmax and the weighted sum -/

theorem both_apply (P : FVec Ideal S8x160x320 .f32) (b : Fin 8) (s : Fin 2) (h : Fin 160) (w : Fin 320) :
    both P (ix4 b s h w) = P (ix3 b h w) := by
  unfold both
  pointwise

theorem total_apply (V : FVec Ideal S8x2x160x320 .f32) (b : Fin 8) (h : Fin 160) (w : Fin 320) :
    total V (ix3 b h w) = V (ix4 b 0 h w) + V (ix4 b 1 h w) := by
  unfold total
  pointwise
  exact Fin.sum_univ_two _

theorem lowest : Ideal.ofBits .f32 0xFF800000#32 = ⊥ := by simp [Ideal.ofBits, Ideal.ieee]

theorem fold_two (f : Fin 2 → EReal) : max ⊥ ((Finset.univ : Finset (Fin 2)).fold max ⊥ f) = max (f 0) (f 1) := by
  rw [show (Finset.univ : Finset (Fin 2)) = {0, 1} by decide, Finset.fold_insert (by decide), Finset.fold_singleton]
  simp

theorem fold_peak (V : FVec Ideal S8x2x160x320 .f32) (b : Fin 8) (h : Fin 160) (w : Fin 320) :
    Host.reduce (FloatOps.maximumf (F := Ideal)) V (constant S_ .f32 0xFF800000#32)
        reducesTo_S8x2x160x320_S8x160x320_d1 h_S_ (ix3 b h w)
      = (Finset.univ : Finset (Fin 2)).fold max (Ideal.ofBits .f32 0xFF800000#32) fun k => V (ix4 b k h w) := by
  pointwise

theorem peak_apply (V : FVec Ideal S8x2x160x320 .f32) (b : Fin 8) (h : Fin 160) (w : Fin 320) :
    peak V (ix3 b h w) = max (V (ix4 b 0 h w)) (V (ix4 b 1 h w)) := by
  unfold peak
  rw [maximumf_apply, fold_peak, broadcastInDim_scalar_apply]
  show max (Ideal.ofBits .f32 0xFF800000#32) _ = _
  rw [lowest]
  exact fold_two fun k => V (ix4 b k h w)

theorem exps_apply (V : FVec Ideal S8x2x160x320 .f32) (b : Fin 8) (s : Fin 2) (h : Fin 160) (w : Fin 320) :
    exps V (ix4 b s h w) = Ideal.exp (V (ix4 b s h w) - max (V (ix4 b 0 h w)) (V (ix4 b 1 h w))) := by
  rw [← peak_apply, ← both_apply (peak V) b s h w]
  rfl

theorem softmax_apply (V : FVec Ideal S8x2x160x320 .f32) (b : Fin 8) (s : Fin 2) (h : Fin 160) (w : Fin 320) :
    softmax V (ix4 b s h w) = Ideal.div (exps V (ix4 b s h w)) (exps V (ix4 b 0 h w) + exps V (ix4 b 1 h w)) := by
  rw [← total_apply, ← both_apply (total (exps V)) b s h w]
  rfl

end Cert.ReferenceIdeal.Top2

end
-- ==== Proof.Ideal.Equation.lean ====
/-
  The kernel's two results are the reference's, at ideal values, where every cost is finite. At a pixel the kernel's scan
  ends with the first two channels by cost; the reference's argsort puts the same two first; and the kernel's two
  probabilities, written from the exponential of one difference, are the softmax of the two costs, because the greater
  cost less itself is zero.
-/
module

public import proofs.«01_k».proof.Proof.Ideal.Order
public import proofs.«01_k».proof.Proof.Ideal.Pixel
public import proofs.«01_k».proof.Proof.Ideal.Run
public import proofs.«01_k».proof.Proof.Gen.Pre_finite_cost

@[expose] public section

noncomputable section

namespace Cert.KernelIdeal.Top2

open Cert.KernelIdeal Cert.KernelIdeal.Gen Idealize.ShloMosaic
open Cert.ReferenceIdeal.Top2 (before firstTwo along exps softmax total probR predR)

/-! ## The kernel's results at a pixel -/

/-- The column of a pixel in its flattened image. -/
def column (h : Fin 160) (w : Fin 320) : Fin 51200 := ⟨h.val * 320 + w.val, by omega⟩

theorem Xv_apply (A : FVec Ideal S8x24x160x320 .f32) (b : Fin 8) (k : Fin 24) (h : Fin 160) (w : Fin 320) :
    Xv (F := Ideal) A (ix3 b k (column h w)) = A (ix4 b k h w) :=
  shapeCast_apply _ _ _ _ (by
    rw [Shape.rowMajor_val_four, Shape.rowMajor_val_three]
    show ((b.val * 24 + k.val) * 160 + h.val) * 320 + w.val = (b.val * 24 + k.val) * 51200 + (h.val * 320 + w.val)
    omega)

/-- A pixel's channels by number. -/
def channel (A : FVec Ideal S8x24x160x320 .f32) (b : Fin 8) (h : Fin 160) (w : Fin 320) (k : ℕ) : EReal :=
  A (ix4 b (Fin.ofNat 24 k) h w)

theorem channel_of_lt (A : FVec Ideal S8x24x160x320 .f32) (b : Fin 8) (h : Fin 160) (w : Fin 320) {k : ℕ} (hk : k < 24) :
    channel A b h w k = A (ix4 b ⟨k, hk⟩ h w) := by
  unfold channel
  rw [show Fin.ofNat 24 k = ⟨k, hk⟩ from Fin.ext (Nat.mod_eq_of_lt hk)]

variable (A B : FVec Ideal S8x24x160x320 .f32) (b : Fin 8) (h : Fin 160) (w : Fin 320)

theorem pixBest_eq : pixBest (F := Ideal) (Xv A) (Xv B) b (column h w) = best (F := Ideal) (channel A b h w) (channel B b h w) 22 := by
  unfold pixBest
  congr 1 <;> funext k <;> exact Xv_apply _ b _ h w

theorem predOf_apply : predOf (F := Ideal) A B (ix3 b h w) = (best (F := Ideal) (channel A b h w) (channel B b h w) 22).pred := by
  unfold predOf
  rw [shapeCast_apply _ _ (ix3 b h w) (ix3 b (0 : Fin 1) (column h w)) (by
    rw [Shape.rowMajor_val_three, Shape.rowMajor_val_three]
    show (b.val * 1 + 0) * 51200 + (h.val * 320 + w.val) = (b.val * 160 + h.val) * 320 + w.val
    omega), ← pixBest_eq]
  rfl

theorem probOf_apply (s : Fin 2) : probOf (F := Ideal) A B (ix4 b s h w)
    = if s.val = 0 then (best (F := Ideal) (channel A b h w) (channel B b h w) 22).p0
      else (best (F := Ideal) (channel A b h w) (channel B b h w) 22).p1 := by
  unfold probOf
  rw [shapeCast_apply _ _ (ix4 b s h w) (ix3 b s (column h w)) (by
    rw [Shape.rowMajor_val_four, Shape.rowMajor_val_three]
    show (b.val * 2 + s.val) * 51200 + (h.val * 320 + w.val) = ((b.val * 2 + s.val) * 160 + h.val) * 320 + w.val
    omega), ← pixBest_eq]
  rfl

/-! ## The reference's results at the pixel, by the same two channels -/

section Pixel

variable {A b h w}
variable {i j : ℕ} (hf : FirstTwo (channel A b h w) 24 i j)
include hf

theorem sorted_eq (s : Fin 2) : (sortedFrom (before A b h w) (s.castLE (by decide))).val = if s = 0 then i else j := by
  have e : before A b h w = fun k k' : Fin 24 => decide (channel A b h w k'.val < channel A b h w k.val) := by
    funext k k'
    rw [channel_of_lt A b h w k.isLt, channel_of_lt A b h w k'.isLt]
    rfl
  rw [e, sorted_firstTwo hf s]
  split <;> rfl

/-- The two gathered values. -/
theorem along_eq (s : Fin 2) : along B (firstTwo A) (ix4 b s h w) = channel B b h w (if s = 0 then i else j) := by
  have lt : (if s = 0 then i else j) < 24 := by split <;> [exact hf.lt_i; exact hf.lt_j]
  rw [channel_of_lt B b h w lt]
  refine Cert.ReferenceIdeal.Top2.along_apply B _ b s h w _ ?_
  rw [Cert.ReferenceIdeal.Top2.firstTwo_apply, sorted_eq hf s]

/-- The exponentials: one, and the exponential of the second cost less the first. -/
theorem exps_eq (r : ℝ) (hr : channel A b h w i = r) (s : Fin 2) : exps (along A (firstTwo A)) (ix4 b s h w)
    = if s = 0 then 1 else Ideal.exp (channel A b h w j - channel A b h w i) := by
  rw [Cert.ReferenceIdeal.Top2.exps_apply, along_eq A hf s, along_eq A hf 0, along_eq A hf 1, if_pos rfl,
    if_neg (show ¬ (1 : Fin 2) = 0 by decide), max_eq_left hf.ahead.le]
  split
  · rw [hr, ← EReal.coe_sub, sub_self, Ideal.exp_coe, Real.exp_zero, EReal.coe_one]
  · rfl

theorem probR_eq (r : ℝ) (hr : channel A b h w i = r) (s : Fin 2) : probR A (ix4 b s h w)
    = Ideal.div (if s = 0 then 1 else Ideal.exp (channel A b h w j - channel A b h w i))
        (1 + Ideal.exp (channel A b h w j - channel A b h w i)) := by
  unfold probR
  rw [Cert.ReferenceIdeal.Top2.softmax_apply, exps_eq hf r hr s, exps_eq hf r hr 0, exps_eq hf r hr 1, if_pos rfl,
    if_neg (show ¬ (1 : Fin 2) = 0 by decide)]

theorem predR_eq (r : ℝ) (hr : channel A b h w i = r) : predR A B (ix3 b h w)
    = channel B b h w i * probR A (ix4 b 0 h w) + channel B b h w j * probR A (ix4 b 1 h w) := by
  unfold predR
  rw [Cert.ReferenceIdeal.Top2.total_apply]
  rw [mulf_apply, mulf_apply, along_eq B hf 0, along_eq B hf 1, if_pos rfl, if_neg (show ¬ (1 : Fin 2) = 0 by decide)]
  unfold probR
  rfl

end Pixel

/-! ## The equation -/

variable (hA : ∀ i, ∃ r : ℝ, (A i : EReal) = r)

/-- The pair's probabilities and prediction in the ideal operations. -/
theorem p0_eq (p : Best Ideal) : p.p0 = Ideal.div 1 (1 + Ideal.exp ((p.m2 : EReal) - p.m1)) := by
  have one : (Scalar.ofBits (F := Ideal) .f32 0x3F800000#32 : EReal) = 1 := Ideal.ofBits_one_f32
  show Ideal.div (Scalar.ofBits (F := Ideal) .f32 0x3F800000#32 : EReal)
    ((Scalar.ofBits (F := Ideal) .f32 0x3F800000#32 : EReal) + Ideal.exp ((p.m2 : EReal) - p.m1)) = _
  rw [one]

theorem p1_eq (p : Best Ideal) :
    p.p1 = Ideal.div (Ideal.exp ((p.m2 : EReal) - p.m1)) (1 + Ideal.exp ((p.m2 : EReal) - p.m1)) := by
  have one : (Scalar.ofBits (F := Ideal) .f32 0x3F800000#32 : EReal) = 1 := Ideal.ofBits_one_f32
  show Ideal.div (Ideal.exp ((p.m2 : EReal) - p.m1))
    ((Scalar.ofBits (F := Ideal) .f32 0x3F800000#32 : EReal) + Ideal.exp ((p.m2 : EReal) - p.m1)) = _
  rw [one]

include hA in
/-- The second result: the two probabilities. -/
theorem prob_eq : probOf (F := Ideal) A B = probR A := by
  funext x
  obtain ⟨b, s, h, w, rfl⟩ : ∃ (b : Fin 8) (s : Fin 2) (h : Fin 160) (w : Fin 320), x = ix4 b s h w := ⟨_, _, _, _, eq_ix4 x⟩
  obtain ⟨i, j, hf, at_⟩ := best_spec (channel A b h w) (channel B b h w) 22
  obtain ⟨r, hr⟩ := hA (ix4 b (Fin.ofNat 24 i) h w)
  refine (probOf_apply A B b h w s).trans ?_
  rw [probR_eq hf r hr s, p0_eq, p1_eq, at_.m1, at_.m2]
  by_cases hs : s = 0
  · rw [if_pos hs, if_pos (show s.val = 0 from congrArg Fin.val hs)]
  · rw [if_neg hs, if_neg (show ¬ s.val = 0 from fun e => hs (Fin.ext e))]

include hA in
/-- The first result: the prediction. -/
theorem pred_eq : predOf (F := Ideal) A B = predR A B := by
  funext x
  obtain ⟨b, h, w, rfl⟩ : ∃ (b : Fin 8) (h : Fin 160) (w : Fin 320), x = ix3 b h w := ⟨_, _, _, eq_ix3 x⟩
  obtain ⟨i, j, hf, at_⟩ := best_spec (channel A b h w) (channel B b h w) 22
  obtain ⟨r, hr⟩ := hA (ix4 b (Fin.ofNat 24 i) h w)
  refine (predOf_apply A B b h w).trans ?_
  rw [predR_eq B hf r hr, probR_eq hf r hr 0, probR_eq hf r hr 1]
  show ((best (F := Ideal) (channel A b h w) (channel B b h w) 22).d1 : EReal) * Best.p0 _
    + ((best (F := Ideal) (channel A b h w) (channel B b h w) 22).d2 : EReal) * Best.p1 _ = _
  rw [p0_eq, p1_eq, at_.m1, at_.m2, at_.d1, at_.d2]
  rfl

/-- What the precondition gives: every cost is a real number. -/
theorem finite_of_pre (hp : Cert.Pre_finite_cost.fn (F := Ideal) A B = fun _ => 1#1) (i : S8x24x160x320.Idx) :
    ∃ r : ℝ, (A i : EReal) = r := by
  have e := congrFun hp (Shape.Idx.first Cert.Pre_finite_cost.Gen.h_S_)
  dsimp only [Cert.Pre_finite_cost.fn] at e
  have e' := Host.reduce_andi_eq_one _ _ _ _ _ e i (Subsingleton.elim _ _)
  have top : (Ideal.ofBits .f32 0x7F800000#32 : EReal) = ⊤ := by simp [Ideal.ofBits, Ideal.ieee]
  have e'' : Ideal.cmp .olt (max (A i : EReal) (-(A i : EReal))) (Ideal.ofBits .f32 0x7F800000#32) = 1#1 := e'
  rw [top] at e''
  have lt : max (A i : EReal) (-(A i : EReal)) < ⊤ := by
    by_contra hn
    simp [Ideal.cmp, hn] at e''
  rw [max_lt_iff] at lt
  refine ⟨(A i : EReal).toReal, (EReal.coe_toReal lt.1.ne fun hb => ?_).symm⟩
  have := lt.2
  rw [hb, EReal.neg_bot] at this
  exact lt_irrefl _ this

end Cert.KernelIdeal.Top2

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_finite_cost
public import proofs.«01_k».proof.Proof.Run
public import proofs.«01_k».proof.Proof.Ideal.Run
public import proofs.«01_k».proof.Proof.Ideal.Equation
public import Idealize.ShloMosaic.Adequacy
public import Idealize.ShloMosaic.Init

@[expose] public section

noncomputable section

namespace Cert.Proof

open Idealize.ShloMosaic Idealize.SL.Sem

/-- The frame of the kernel at the bit-exact values. -/
theorem frame_kernel : Cert.quiescent_Kernel := fun m g _ =>
  (θ_run _ _ _).mono (fun _ h => ⟨fun c => ⟨(h.1 c).1, (h.1 c).2.1⟩, h.2⟩) (Cert.Kernel.Top2.run_main (F := Bits) m g)

/-- The frame of its ideal version. -/
theorem frame_ideal (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run _ _ _).mono (fun _ h => ⟨fun c => ⟨(h.1 c).1, (h.1 c).2.1⟩, h.2⟩) (Cert.KernelIdeal.Top2.run_main (F := Ideal) m g)

/-- The frame of the reference, which declares no semaphore. -/
theorem frame_reference : Cert.quiescent_ReferenceIdeal := fun m g _ =>
  (θ_run _ _ _).mono (fun r h => ⟨fun c => ⟨(h c).2.2.1, (h c).2.2.2⟩, sem_eq_zero_of_no_sems (by decide) r.2⟩)
    (Cert.ReferenceIdeal.Value.run (F := Ideal) m g)

/-- The kernel's ideal version and the reference leave the same two results. -/
theorem same_results : Cert.algebraic_KernelIdeal_ReferenceIdeal_pre_finite_cost := by
  intro m g m' g' hpre hargs
  refine ⟨fun c => Cert.KernelIdeal.Top2.predOf (F := Ideal) (m (Cert.KernelIdeal.Top2.aLoc c)) (m (Cert.KernelIdeal.Top2.bLoc c)),
    fun c => Cert.KernelIdeal.Top2.probOf (F := Ideal) (m (Cert.KernelIdeal.Top2.aLoc c)) (m (Cert.KernelIdeal.Top2.bLoc c)), ?_, ?_⟩
  · exact (θ_run _ _ _).mono (fun _ h c => ⟨(h.1 c).2.2.1, (h.1 c).2.2.2, (h.1 c).1, (h.1 c).2.1⟩)
      (Cert.KernelIdeal.Top2.run_main (F := Ideal) m g)
  · refine (θ_run _ _ _).mono (fun r h c => ⟨(h c).1.trans ?_, (h c).2.1.trans ?_, (h c).2.2.1, (h c).2.2.2⟩)
      (Cert.ReferenceIdeal.Value.run (F := Ideal) m' g')
    · rw [Cert.ReferenceIdeal.Top2.pred_named, (hargs c).1, (hargs c).2]
      exact (Cert.KernelIdeal.Top2.pred_eq _ _ (Cert.KernelIdeal.Top2.finite_of_pre _ _ (hpre c))).symm
    · rw [Cert.ReferenceIdeal.Top2.prob_named, (hargs c).1]
      exact (Cert.KernelIdeal.Top2.prob_eq _ _ (Cert.KernelIdeal.Top2.finite_of_pre _ _ (hpre c))).symm

theorem claim : Cert.Claim :=
  ⟨Cert.Kernel.Gen.facts, Cert.KernelIdeal.Gen.facts, Cert.ReferenceIdeal.Gen.facts, Cert.Pre_finite_cost.Gen.facts,
    frame_kernel, fun m g _ => frame_ideal m g, fun m g _ => frame_ideal m g, frame_reference,
    fun m g _ => frame_reference m g trivial, trivial, same_results⟩

end Cert.Proof

end
